-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_and_finite [hPre_codes_and_finite : Cert.Pre_codes_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_codes_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_and_finite [hPre_codes_and_finite : Cert.Pre_codes_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_codes_and_finite [hKernelIdeal : Cert.KernelIdeal.Facts] [hPre_codes_and_finite : Cert.Pre_codes_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_codes_and_finite [hReferenceIdeal : Cert.ReferenceIdeal.Facts] [hPre_codes_and_finite : Cert.Pre_codes_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_codes_and_finite [hKernelIdeal : Cert.KernelIdeal.Facts] [hReferenceIdeal : Cert.ReferenceIdeal.Facts] [hPre_codes_and_finite : Cert.Pre_codes_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_codes_and_finite : Cert.Pre_codes_and_finite.Facts),
    quiescent_Kernel (hKernel := hKernel)
    ∧ quiescent_KernelIdeal (hKernelIdeal := hKernelIdeal)
    ∧ quiescent_KernelIdeal_pre_codes_and_finite (hKernelIdeal := hKernelIdeal) (hPre_codes_and_finite := hPre_codes_and_finite)
    ∧ quiescent_ReferenceIdeal (hReferenceIdeal := hReferenceIdeal)
    ∧ quiescent_ReferenceIdeal_pre_codes_and_finite (hReferenceIdeal := hReferenceIdeal) (hPre_codes_and_finite := hPre_codes_and_finite)
    ∧ preserves_Kernel_KernelIdeal
    ∧ algebraic_KernelIdeal_ReferenceIdeal_pre_codes_and_finite (hKernelIdeal := hKernelIdeal) (hReferenceIdeal := hReferenceIdeal) (hPre_codes_and_finite := hPre_codes_and_finite)
-- ==== Pre_codes_and_finite.lean ====
abbrev S4096x200x8 : Shape := ⟨3, ![4096, 200, 8]⟩
abbrev S4096x200x4 : Shape := ⟨3, ![4096, 200, 4]⟩
abbrev S4096x200x1 : Shape := ⟨3, ![4096, 200, 1]⟩
abbrev S8x5 : Shape := ⟨2, ![8, 5]⟩
abbrev S2x2 : Shape := ⟨2, ![2, 2]⟩
abbrev S6x3 : Shape := ⟨2, ![6, 3]⟩
abbrev S21x64 : Shape := ⟨2, ![21, 64]⟩
abbrev S64 : Shape := ⟨1, ![64]⟩
abbrev S_ : Shape := ⟨0, ![]⟩
abbrev S1x5 : Shape := ⟨2, ![1, 5]⟩
abbrev S1x2 : Shape := ⟨2, ![1, 2]⟩
abbrev S1x3 : Shape := ⟨2, ![1, 3]⟩
abbrev S12x64 : Shape := ⟨2, ![12, 64]⟩

class Facts : Prop where
  bcast_S_S4096x200x4 : S_.BroadcastsInDim S4096x200x4 (![] : Fin 0 → Fin S4096x200x4.rank)
  reducesTo_S4096x200x4_S_d0_1_2 : S4096x200x4.ReducesTo [0, 1, 2] S_
  h_S_ : 0 < S_.numel
  slices_S8x5_S1x5_0_0 : S8x5.Slices ![0, 0] S1x5
  bcast_S_S1x5 : S_.BroadcastsInDim S1x5 (![] : Fin 0 → Fin S1x5.rank)
  reducesTo_S1x5_S_d0_1 : S1x5.ReducesTo [0, 1] S_
  slices_S2x2_S1x2_0_0 : S2x2.Slices ![0, 0] S1x2
  bcast_S_S1x2 : S_.BroadcastsInDim S1x2 (![] : Fin 0 → Fin S1x2.rank)
  reducesTo_S1x2_S_d0_1 : S1x2.ReducesTo [0, 1] S_
  slices_S6x3_S1x3_0_0 : S6x3.Slices ![0, 0] S1x3
  bcast_S_S1x3 : S_.BroadcastsInDim S1x3 (![] : Fin 0 → Fin S1x3.rank)
  reducesTo_S1x3_S_d0_1 : S1x3.ReducesTo [0, 1] S_
  slices_S21x64_S12x64_0_0 : S21x64.Slices ![0, 0] S12x64
  bcast_S_S12x64 : S_.BroadcastsInDim S12x64 (![] : Fin 0 → Fin S12x64.rank)
  reducesTo_S12x64_S_d0_1 : S12x64.ReducesTo [0, 1] S_

variable [Facts]

def fn_part2 {F : FTy → Type} [FloatOps F] (main_v29 : IVec S_ 1) (main_v34 : IVec S_ 1) : IVec S_ 1 :=
  let main_v35 : IVec S_ 1 := andi main_v29 main_v34
  main_v35

def fn_part1 {F : FTy → Type} [FloatOps F] (main_arg5 : FVec F S2x2 .f32) (main_arg6 : FVec F S6x3 .f32) (main_arg7 : FVec F S21x64 .f32) (main_v11 : IVec S_ 1) (main_v16 : IVec S_ 1) : IVec S_ 1 :=
  let main_v17 : IVec S_ 1 := andi main_v11 main_v16
  let main_v18 : FVec F S1x2 .f32 := (extractStridedSlice S1x2 ![0, 0] · slices_S2x2_S1x2_0_0) main_arg5
  let main_v19 : FVec F S1x2 .f32 := Host.absf main_v18
  let main_cst_5 : FVec F S_ .f32 := constant S_ .f32 0x7F800000#32
  let main_v20 : FVec F S1x2 .f32 := broadcastInDim S1x2 ![] bcast_S_S1x2 main_cst_5
  let main_v21 : IVec S1x2 1 := cmpf .olt main_v19 main_v20
  let main_c_6 : IVec S_ 1 := constantI S_ 1 1#1
  let main_v22 : IVec S_ 1 := (fun x v => Host.reduce IntOp.andi x v reducesTo_S1x2_S_d0_1 h_S_) main_v21 main_c_6
  let main_v23 : IVec S_ 1 := andi main_v17 main_v22
  let main_v24 : FVec F S1x3 .f32 := (extractStridedSlice S1x3 ![0, 0] · slices_S6x3_S1x3_0_0) main_arg6
  let main_v25 : FVec F S1x3 .f32 := Host.absf main_v24
  let main_cst_7 : FVec F S_ .f32 := constant S_ .f32 0x7F800000#32
  let main_v26 : FVec F S1x3 .f32 := broadcastInDim S1x3 ![] bcast_S_S1x3 main_cst_7
  let main_v27 : IVec S1x3 1 := cmpf .olt main_v25 main_v26
  let main_c_8 : IVec S_ 1 := constantI S_ 1 1#1
  let main_v28 : IVec S_ 1 := (fun x v => Host.reduce IntOp.andi x v reducesTo_S1x3_S_d0_1 h_S_) main_v27 main_c_8
  let main_v29 : IVec S_ 1 := andi main_v23 main_v28
  let main_v30 : FVec F S12x64 .f32 := (extractStridedSlice S12x64 ![0, 0] · slices_S21x64_S12x64_0_0) main_arg7
  let main_v31 : FVec F S12x64 .f32 := Host.absf main_v30
  let main_cst_9 : FVec F S_ .f32 := constant S_ .f32 0x7F800000#32
  let main_v32 : FVec F S12x64 .f32 := broadcastInDim S12x64 ![] bcast_S_S12x64 main_cst_9
  let main_v33 : IVec S12x64 1 := cmpf .olt main_v31 main_v32
  let main_c_10 : IVec S_ 1 := constantI S_ 1 1#1
  let main_v34 : IVec S_ 1 := (fun x v => Host.reduce IntOp.andi x v reducesTo_S12x64_S_d0_1 h_S_) main_v33 main_c_10
  fn_part2 (F := F) main_v29 main_v34

def fn {F : FTy → Type} [FloatOps F] (main_arg0 : FVec F S4096x200x8 .f32) (main_arg1 : IVec S4096x200x4 32) (main_arg2 : FVec F S4096x200x1 .f32) (main_arg3 : FVec F S8x5 .f32) (main_arg4 : FVec F S2x2 .f32) (main_arg5 : FVec F S2x2 .f32) (main_arg6 : FVec F S6x3 .f32) (main_arg7 : FVec F S21x64 .f32) (main_arg8 : FVec F S64 .f32) : IVec S_ 1 :=
  let main_c : IVec S_ 32 := constantI S_ 32 0#32
  let main_v0 : IVec S4096x200x4 32 := broadcastInDim S4096x200x4 ![] bcast_S_S4096x200x4 main_c
  let main_v1 : IVec S4096x200x4 1 := cmpi .sge main_arg1 main_v0
  let main_c_0 : IVec S_ 32 := constantI S_ 32 2#32
  let main_v2 : IVec S4096x200x4 32 := broadcastInDim S4096x200x4 ![] bcast_S_S4096x200x4 main_c_0
  let main_v3 : IVec S4096x200x4 1 := cmpi .slt main_arg1 main_v2
  let main_v4 : IVec S4096x200x4 1 := andi main_v1 main_v3
  let main_c_1 : IVec S_ 1 := constantI S_ 1 1#1
  let main_v5 : IVec S_ 1 := (fun x v => Host.reduce IntOp.andi x v reducesTo_S4096x200x4_S_d0_1_2 h_S_) main_v4 main_c_1
  let main_v6 : FVec F S1x5 .f32 := (extractStridedSlice S1x5 ![0, 0] · slices_S8x5_S1x5_0_0) main_arg3
  let main_v7 : FVec F S1x5 .f32 := Host.absf main_v6
  let main_cst : FVec F S_ .f32 := constant S_ .f32 0x7F800000#32
  let main_v8 : FVec F S1x5 .f32 := broadcastInDim S1x5 ![] bcast_S_S1x5 main_cst
  let main_v9 : IVec S1x5 1 := cmpf .olt main_v7 main_v8
  let main_c_2 : IVec S_ 1 := constantI S_ 1 1#1
  let main_v10 : IVec S_ 1 := (fun x v => Host.reduce IntOp.andi x v reducesTo_S1x5_S_d0_1 h_S_) main_v9 main_c_2
  let main_v11 : IVec S_ 1 := andi main_v5 main_v10
  let main_v12 : FVec F S1x2 .f32 := (extractStridedSlice S1x2 ![0, 0] · slices_S2x2_S1x2_0_0) main_arg4
  let main_v13 : FVec F S1x2 .f32 := Host.absf main_v12
  let main_cst_3 : FVec F S_ .f32 := constant S_ .f32 0x7F800000#32
  let main_v14 : FVec F S1x2 .f32 := broadcastInDim S1x2 ![] bcast_S_S1x2 main_cst_3
  let main_v15 : IVec S1x2 1 := cmpf .olt main_v13 main_v14
  let main_c_4 : IVec S_ 1 := constantI S_ 1 1#1
  let main_v16 : IVec S_ 1 := (fun x v => Host.reduce IntOp.andi x v reducesTo_S1x2_S_d0_1 h_S_) main_v15 main_c_4
  fn_part1 (F := F) main_arg5 main_arg6 main_arg7 main_v11 main_v16
-- ==== Kernel.lean ====
abbrev S4096x200x8 : Shape := ⟨3, ![4096, 200, 8]⟩
abbrev S4096x200x4 : Shape := ⟨3, ![4096, 200, 4]⟩
abbrev S4096x200x1 : Shape := ⟨3, ![4096, 200, 1]⟩
abbrev S8x5 : Shape := ⟨2, ![8, 5]⟩
abbrev S2x2 : Shape := ⟨2, ![2, 2]⟩
abbrev S6x3 : Shape := ⟨2, ![6, 3]⟩
abbrev S21x64 : Shape := ⟨2, ![21, 64]⟩
abbrev S64 : Shape := ⟨1, ![64]⟩
abbrev S5x64 : Shape := ⟨2, ![5, 64]⟩
abbrev S8x64 : Shape := ⟨2, ![8, 64]⟩
abbrev S2x64 : Shape := ⟨2, ![2, 64]⟩
abbrev S3x64 : Shape := ⟨2, ![3, 64]⟩
abbrev S6x64 : Shape := ⟨2, ![6, 64]⟩
abbrev S1x64 : Shape := ⟨2, ![1, 64]⟩
abbrev S64x1 : Shape := ⟨2, ![64, 1]⟩
abbrev S4x64 : Shape := ⟨2, ![4, 64]⟩
abbrev S13x64 : Shape := ⟨2, ![13, 64]⟩
abbrev S64x13 : Shape := ⟨2, ![64, 13]⟩
abbrev S200x8x4096 : Shape := ⟨3, ![200, 8, 4096]⟩
abbrev S200x4x4096 : Shape := ⟨3, ![200, 4, 4096]⟩
abbrev S200x1x4096 : Shape := ⟨3, ![200, 1, 4096]⟩
abbrev S200x64x4096 : Shape := ⟨3, ![200, 64, 4096]⟩
abbrev S20x8x4096 : Shape := ⟨3, ![20, 8, 4096]⟩
abbrev S20x4x4096 : Shape := ⟨3, ![20, 4, 4096]⟩
abbrev S20x1x4096 : Shape := ⟨3, ![20, 1, 4096]⟩
abbrev S20x64x4096 : Shape := ⟨3, ![20, 64, 4096]⟩
abbrev S1x8x4096 : Shape := ⟨3, ![1, 8, 4096]⟩
abbrev S8x4096 : Shape := ⟨2, ![8, 4096]⟩
abbrev S1x4x4096 : Shape := ⟨3, ![1, 4, 4096]⟩
abbrev S4x4096 : Shape := ⟨2, ![4, 4096]⟩
abbrev S1x1x4096 : Shape := ⟨3, ![1, 1, 4096]⟩
abbrev S1x4096 : Shape := ⟨2, ![1, 4096]⟩
abbrev S13x4096 : Shape := ⟨2, ![13, 4096]⟩
abbrev S64x4096 : Shape := ⟨2, ![64, 4096]⟩
abbrev S1x64x4096 : Shape := ⟨3, ![1, 64, 4096]⟩
abbrev S4096x200x64 : Shape := ⟨3, ![4096, 200, 64]⟩

abbrev nBuf : Space → Nat
  | .hbm => 64
  | .vmem => 10
  | .smem => 0
  | _ => 0

abbrev bufTy : (tb : Table) → Fin (tcTables nBuf tb) → BufTy
  | .hbm, ⟨0, _⟩ => ⟨S4096x200x8, .f32⟩
  | .hbm, ⟨1, _⟩ => ⟨S4096x200x4, .i32⟩
  | .hbm, ⟨2, _⟩ => ⟨S4096x200x1, .f32⟩
  | .hbm, ⟨3, _⟩ => ⟨S8x5, .f32⟩
  | .hbm, ⟨4, _⟩ => ⟨S2x2, .f32⟩
  | .hbm, ⟨5, _⟩ => ⟨S2x2, .f32⟩
  | .hbm, ⟨6, _⟩ => ⟨S6x3, .f32⟩
  | .hbm, ⟨7, _⟩ => ⟨S21x64, .f32⟩
  | .hbm, ⟨8, _⟩ => ⟨S64, .f32⟩
  | .hbm, ⟨9, _⟩ => ⟨S5x64, .f32⟩
  | .hbm, ⟨10, _⟩ => ⟨S8x64, .f32⟩
  | .hbm, ⟨11, _⟩ => ⟨S2x64, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S3x64, .f32⟩
  | .hbm, ⟨16, _⟩ => ⟨S6x64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S64, .f32⟩
  | .hbm, ⟨29, _⟩ => ⟨S64x1, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S64, .f32⟩
  | .hbm, ⟨34, _⟩ => ⟨S64, .f32⟩
  | .hbm, ⟨35, _⟩ => ⟨S1x64, .f32⟩
  | .hbm, ⟨36, _⟩ => ⟨S64, .f32⟩
  | .hbm, ⟨37, _⟩ => ⟨S1x64, .f32⟩
  | .hbm, ⟨38, _⟩ => ⟨S64, .f32⟩
  | .hbm, ⟨39, _⟩ => ⟨S64, .f32⟩
  | .hbm, ⟨40, _⟩ => ⟨S1x64, .f32⟩
  | .hbm, ⟨41, _⟩ => ⟨S64, .f32⟩
  | .hbm, ⟨42, _⟩ => ⟨S1x64, .f32⟩
  | .hbm, ⟨43, _⟩ => ⟨S64, .f32⟩
  | .hbm, ⟨44, _⟩ => ⟨S64, .f32⟩
  | .hbm, ⟨45, _⟩ => ⟨S1x64, .f32⟩
  | .hbm, ⟨46, _⟩ => ⟨S64, .f32⟩
  | .hbm, ⟨47, _⟩ => ⟨S1x64, .f32⟩
  | .hbm, ⟨48, _⟩ => ⟨S64, .f32⟩
  | .hbm, ⟨49, _⟩ => ⟨S64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S4x64, .f32⟩
  | .hbm, ⟨55, _⟩ => ⟨S8x64, .f32⟩
  | .hbm, ⟨56, _⟩ => ⟨S1x64, .f32⟩
  | .hbm, ⟨57, _⟩ => ⟨S13x64, .f32⟩
  | .hbm, ⟨58, _⟩ => ⟨S64x13, .f32⟩
  | .hbm, ⟨59, _⟩ => ⟨S200x8x4096, .f32⟩
  | .hbm, ⟨60, _⟩ => ⟨S200x4x4096, .i32⟩
  | .hbm, ⟨61, _⟩ => ⟨S200x1x4096, .f32⟩
  | .hbm, ⟨62, _⟩ => ⟨S200x64x4096, .f32⟩
  | .hbm, ⟨63, _⟩ => ⟨S4096x200x64, .f32⟩
  | .local _ .vmem, ⟨0, _⟩ => ⟨S20x8x4096, .f32⟩
  | .local _ .vmem, ⟨1, _⟩ => ⟨S20x8x4096, .f32⟩
  | .local _ .vmem, ⟨2, _⟩ => ⟨S20x4x4096, .i32⟩
  | .local _ .vmem, ⟨3, _⟩ => ⟨S20x4x4096, .i32⟩
  | .local _ .vmem, ⟨4, _⟩ => ⟨S20x1x4096, .f32⟩
  | .local _ .vmem, ⟨5, _⟩ => ⟨S20x1x4096, .f32⟩
  | .local _ .vmem, ⟨6, _⟩ => ⟨S64x13, .f32⟩
  | .local _ .vmem, ⟨7, _⟩ => ⟨S64x1, .f32⟩
  | .local _ .vmem, ⟨8, _⟩ => ⟨S20x64x4096, .f32⟩
  | .local _ .vmem, ⟨9, _⟩ => ⟨S20x64x4096, .f32⟩
  | _, _ => ⟨S4096x200x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S20x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x4x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x13 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S20x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x200x8 : Shape := ⟨3, ![4096, 200, 8]⟩
abbrev S4096x200x4 : Shape := ⟨3, ![4096, 200, 4]⟩
abbrev S4096x200x1 : Shape := ⟨3, ![4096, 200, 1]⟩
abbrev S8x5 : Shape := ⟨2, ![8, 5]⟩
abbrev S2x2 : Shape := ⟨2, ![2, 2]⟩
abbrev S6x3 : Shape := ⟨2, ![6, 3]⟩
abbrev S21x64 : Shape := ⟨2, ![21, 64]⟩
abbrev S64 : Shape := ⟨1, ![64]⟩
abbrev S4096x200 : Shape := ⟨2, ![4096, 200]⟩
abbrev S_ : Shape := ⟨0, ![]⟩
abbrev S1 : Shape := ⟨1, ![1]⟩
abbrev S1x1x1 : Shape := ⟨3, ![1, 1, 1]⟩
abbrev S4096x200x5 : Shape := ⟨3, ![4096, 200, 5]⟩
abbrev S4096x200x2 : Shape := ⟨3, ![4096, 200, 2]⟩
abbrev S4096x200x3 : Shape := ⟨3, ![4096, 200, 3]⟩
abbrev S4096x200x21 : Shape := ⟨3, ![4096, 200, 21]⟩
abbrev S4096x200x64 : Shape := ⟨3, ![4096, 200, 64]⟩
abbrev S1x1x64 : Shape := ⟨3, ![1, 1, 64]⟩

abbrev nBuf : Space → Nat
  | .hbm => 121
  | .vmem => 0
  | .smem => 0
  | _ => 0

abbrev bufTy : (tb : Table) → Fin (tcTables nBuf tb) → BufTy
  | .hbm, ⟨0, _⟩ => ⟨S4096x200x8, .f32⟩
  | .hbm, ⟨1, _⟩ => ⟨S4096x200x4, .i32⟩
  | .hbm, ⟨2, _⟩ => ⟨S4096x200x1, .f32⟩
  | .hbm, ⟨3, _⟩ => ⟨S8x5, .f32⟩
  | .hbm, ⟨4, _⟩ => ⟨S2x2, .f32⟩
  | .hbm, ⟨5, _⟩ => ⟨S2x2, .f32⟩
  | .hbm, ⟨6, _⟩ => ⟨S6x3, .f32⟩
  | .hbm, ⟨7, _⟩ => ⟨S21x64, .f32⟩
  | .hbm, ⟨8, _⟩ => ⟨S64, .f32⟩
  | .hbm, ⟨9, _⟩ => ⟨S4096x200x1, .i32⟩
  | .hbm, ⟨10, _⟩ => ⟨S4096x200, .i32⟩
  | .hbm, ⟨11, _⟩ => ⟨S_, .i32⟩
  | .hbm, ⟨12, _⟩ => ⟨S4096x200, .i32⟩
  | .hbm, ⟨13, _⟩ => ⟨S4096x200, .i1⟩
  | .hbm, ⟨14, _⟩ => ⟨S_, .i32⟩
  | .hbm, ⟨15, _⟩ => ⟨S4096x200, .i32⟩
  | .hbm, ⟨16, _⟩ => ⟨S4096x200, .i32⟩
  | .hbm, ⟨17, _⟩ => ⟨S4096x200, .i32⟩
  | .hbm, ⟨18, _⟩ => ⟨S4096x200x1, .i32⟩
  | .hbm, ⟨19, _⟩ => ⟨S1, .i32⟩
  | .hbm, ⟨20, _⟩ => ⟨S_, .i32⟩
  | .hbm, ⟨21, _⟩ => ⟨S4096x200x1, .i32⟩
  | .hbm, ⟨22, _⟩ => ⟨S4096x200x1, .i1⟩
  | .hbm, ⟨23, _⟩ => ⟨S1x1x1, .i32⟩
  | .hbm, ⟨24, _⟩ => ⟨S4096x200x1, .i32⟩
  | .hbm, ⟨25, _⟩ => ⟨S4096x200x1, .i1⟩
  | .hbm, ⟨26, _⟩ => ⟨S4096x200x1, .i1⟩
  | .hbm, ⟨27, _⟩ => ⟨S_, .i1⟩
  | .hbm, ⟨28, _⟩ => ⟨S4096x200, .i1⟩
  | .hbm, ⟨29, _⟩ => ⟨S4096x200x5, .f32⟩
  | .hbm, ⟨30, _⟩ => ⟨S4096x200x5, .i1⟩
  | .hbm, ⟨31, _⟩ => ⟨S_, .f32⟩
  | .hbm, ⟨32, _⟩ => ⟨S4096x200x5, .f32⟩
  | .hbm, ⟨33, _⟩ => ⟨S4096x200x5, .f32⟩
  | .hbm, ⟨34, _⟩ => ⟨S4096x200x1, .i32⟩
  | .hbm, ⟨35, _⟩ => ⟨S4096x200, .i32⟩
  | .hbm, ⟨36, _⟩ => ⟨S_, .i32⟩
  | .hbm, ⟨37, _⟩ => ⟨S4096x200, .i32⟩
  | .hbm, ⟨38, _⟩ => ⟨S4096x200, .i1⟩
  | .hbm, ⟨39, _⟩ => ⟨S_, .i32⟩
  | .hbm, ⟨40, _⟩ => ⟨S4096x200, .i32⟩
  | .hbm, ⟨41, _⟩ => ⟨S4096x200, .i32⟩
  | .hbm, ⟨42, _⟩ => ⟨S4096x200, .i32⟩
  | .hbm, ⟨43, _⟩ => ⟨S4096x200x1, .i32⟩
  | .hbm, ⟨44, _⟩ => ⟨S1, .i32⟩
  | .hbm, ⟨45, _⟩ => ⟨S_, .i32⟩
  | .hbm, ⟨46, _⟩ => ⟨S4096x200x1, .i32⟩
  | .hbm, ⟨47, _⟩ => ⟨S4096x200x1, .i1⟩
  | .hbm, ⟨48, _⟩ => ⟨S1x1x1, .i32⟩
  | .hbm, ⟨49, _⟩ => ⟨S4096x200x1, .i32⟩
  | .hbm, ⟨50, _⟩ => ⟨S4096x200x1, .i1⟩
  | .hbm, ⟨51, _⟩ => ⟨S4096x200x1, .i1⟩
  | .hbm, ⟨52, _⟩ => ⟨S_, .i1⟩
  | .hbm, ⟨53, _⟩ => ⟨S4096x200, .i1⟩
  | .hbm, ⟨54, _⟩ => ⟨S4096x200x2, .f32⟩
  | .hbm, ⟨55, _⟩ => ⟨S4096x200x2, .i1⟩
  | .hbm, ⟨56, _⟩ => ⟨S_, .f32⟩
  | .hbm, ⟨57, _⟩ => ⟨S4096x200x2, .f32⟩
  | .hbm, ⟨58, _⟩ => ⟨S4096x200x2, .f32⟩
  | .hbm, ⟨59, _⟩ => ⟨S4096x200x1, .i32⟩
  | .hbm, ⟨60, _⟩ => ⟨S4096x200, .i32⟩
  | .hbm, ⟨61, _⟩ => ⟨S_, .i32⟩
  | .hbm, ⟨62, _⟩ => ⟨S4096x200, .i32⟩
  | .hbm, ⟨63, _⟩ => ⟨S4096x200, .i1⟩
  | .hbm, ⟨64, _⟩ => ⟨S_, .i32⟩
  | .hbm, ⟨65, _⟩ => ⟨S4096x200, .i32⟩
  | .hbm, ⟨66, _⟩ => ⟨S4096x200, .i32⟩
  | .hbm, ⟨67, _⟩ => ⟨S4096x200, .i32⟩
  | .hbm, ⟨68, _⟩ => ⟨S4096x200x1, .i32⟩
  | .hbm, ⟨69, _⟩ => ⟨S1, .i32⟩
  | .hbm, ⟨70, _⟩ => ⟨S_, .i32⟩
  | .hbm, ⟨71, _⟩ => ⟨S4096x200x1, .i32⟩
  | .hbm, ⟨72, _⟩ => ⟨S4096x200x1, .i1⟩
  | .hbm, ⟨73, _⟩ => ⟨S1x1x1, .i32⟩
  | .hbm, ⟨74, _⟩ => ⟨S4096x200x1, .i32⟩
  | .hbm, ⟨75, _⟩ => ⟨S4096x200x1, .i1⟩
  | .hbm, ⟨76, _⟩ => ⟨S4096x200x1, .i1⟩
  | .hbm, ⟨77, _⟩ => ⟨S_, .i1⟩
  | .hbm, ⟨78, _⟩ => ⟨S4096x200, .i1⟩
  | .hbm, ⟨79, _⟩ => ⟨S4096x200x2, .f32⟩
  | .hbm, ⟨80, _⟩ => ⟨S4096x200x2, .i1⟩
  | .hbm, ⟨81, _⟩ => ⟨S_, .f32⟩
  | .hbm, ⟨82, _⟩ => ⟨S4096x200x2, .f32⟩
  | .hbm, ⟨83, _⟩ => ⟨S4096x200x2, .f32⟩
  | .hbm, ⟨84, _⟩ => ⟨S4096x200x1, .i32⟩
  | .hbm, ⟨85, _⟩ => ⟨S4096x200, .i32⟩
  | .hbm, ⟨86, _⟩ => ⟨S_, .i32⟩
  | .hbm, ⟨87, _⟩ => ⟨S4096x200, .i32⟩
  | .hbm, ⟨88, _⟩ => ⟨S4096x200, .i1⟩
  | .hbm, ⟨89, _⟩ => ⟨S_, .i32⟩
  | .hbm, ⟨90, _⟩ => ⟨S4096x200, .i32⟩
  | .hbm, ⟨91, _⟩ => ⟨S4096x200, .i32⟩
  | .hbm, ⟨92, _⟩ => ⟨S4096x200, .i32⟩
  | .hbm, ⟨93, _⟩ => ⟨S4096x200x1, .i32⟩
  | .hbm, ⟨94, _⟩ => ⟨S1, .i32⟩
  | .hbm, ⟨95, _⟩ => ⟨S_, .i32⟩
  | .hbm, ⟨96, _⟩ => ⟨S4096x200x1, .i32⟩
  | .hbm, ⟨97, _⟩ => ⟨S4096x200x1, .i1⟩
  | .hbm, ⟨98, _⟩ => ⟨S1x1x1, .i32⟩
  | .hbm, ⟨99, _⟩ => ⟨S4096x200x1, .i32⟩
  | .hbm, ⟨100, _⟩ => ⟨S4096x200x1, .i1⟩
  | .hbm, ⟨101, _⟩ => ⟨S4096x200x1, .i1⟩
  | .hbm, ⟨102, _⟩ => ⟨S_, .i1⟩
  | .hbm, ⟨103, _⟩ => ⟨S4096x200, .i1⟩
  | .hbm, ⟨104, _⟩ => ⟨S4096x200x3, .f32⟩
  | .hbm, ⟨105, _⟩ => ⟨S4096x200x3, .i1⟩
  | .hbm, ⟨106, _⟩ => ⟨S_, .f32⟩
  | .hbm, ⟨107, _⟩ => ⟨S4096x200x3, .f32⟩
  | .hbm, ⟨108, _⟩ => ⟨S4096x200x3, .f32⟩
  | .hbm, ⟨109, _⟩ => ⟨S4096x200x21, .f32⟩
  | .hbm, ⟨110, _⟩ => ⟨S4096x200x64, .f32⟩
  | .hbm, ⟨111, _⟩ => ⟨S1x1x64, .f32⟩
  | .hbm, ⟨112, _⟩ => ⟨S4096x200x64, .f32⟩
  | .hbm, ⟨113, _⟩ => ⟨S4096x200x64, .f32⟩
  | .hbm, ⟨114, _⟩ => ⟨S_, .f32⟩
  | .hbm, ⟨115, _⟩ => ⟨S4096x200x64, .f32⟩
  | .hbm, ⟨116, _⟩ => ⟨S4096x200x64, .i1⟩
  | .hbm, ⟨117, _⟩ => ⟨S_, .f32⟩
  | .hbm, ⟨118, _⟩ => ⟨S4096x200x64, .f32⟩
  | .hbm, ⟨119, _⟩ => ⟨S4096x200x64, .f32⟩
  | .hbm, ⟨120, _⟩ => ⟨S4096x200x64, .f32⟩
  | _, _ => ⟨S4096x200x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v8 : Ref sig .tc := ⟨.hbm, 83, rfl⟩
abbrev main_v9 : Ref sig .tc := ⟨.hbm, 84, rfl⟩
abbrev main_v10 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_call3_cst : Ref sig .tc := ⟨.hbm, 106, rfl⟩
abbrev main_call3_v15 : Ref sig .tc := ⟨.hbm, 107, rfl⟩
abbrev main_v11 : Ref sig .tc := ⟨.hbm, 108, rfl⟩
abbrev main_v12 : Ref sig .tc := ⟨.hbm, 109, rfl⟩
abbrev main_v13 : Ref sig .tc := ⟨.hbm, 110, rfl⟩
abbrev main_v14 : Ref sig .tc := ⟨.hbm, 111, rfl⟩
abbrev main_v15 : Ref sig .tc := ⟨.hbm, 112, rfl⟩
abbrev main_v16 : Ref sig .tc := ⟨.hbm, 113, rfl⟩
abbrev main_cst : Ref sig .tc := ⟨.hbm, 114, rfl⟩
abbrev main_v17 : Ref sig .tc := ⟨.hbm, 115, rfl⟩
abbrev main_v18 : Ref sig .tc := ⟨.hbm, 116, rfl⟩
abbrev main_cst_0 : Ref sig .tc := ⟨.hbm, 117, rfl⟩
abbrev main_v19 : Ref sig .tc := ⟨.hbm, 118, rfl⟩
abbrev main_v20 : Ref sig .tc := ⟨.hbm, 119, rfl⟩
abbrev main_v21 : Ref sig .tc := ⟨.hbm, 120, rfl⟩

abbrev nD : Nat := 1
abbrev τ : Topo := Topo.v7x

variable {F : FTy → Type} [FloatOps F]
-- ==== Proof.Spec.lean ====
/-
  The encoder layer as one function of the argument arrays, in a module that names no program, and the equation on
  extended reals that lets a table lookup followed by a product be replaced by a blend of two precomputed rows.
-/
module

public import Idealize.ShloMosaic.Lib.ValueIdx
public import Idealize.ShloMosaic.PureOps.Ideal.Laws

@[expose] public section

noncomputable section

namespace Cert.Encoder

open Idealize.ShloMosaic Idealize.ShloMosaic.ValueIdx
open scoped BigOperators

/-- Index functions of the arrays, by their extents. -/
abbrev Arr1 (α : Type) (a : ℕ) : Type := (⟨1, ![a]⟩ : Shape).Idx → α
abbrev Arr2 (α : Type) (a b : ℕ) : Type := (⟨2, ![a, b]⟩ : Shape).Idx → α
abbrev Arr3 (α : Type) (a b c : ℕ) : Type := (⟨3, ![a, b, c]⟩ : Shape).Idx → α

/-- The leaky rectifier: the argument where it is at least zero, its multiple by the f32 nearest one hundredth elsewhere. -/
def leaky (x : EReal) : EReal :=
  Scalar.select (FloatOps.cmpf (F := Ideal) (φ := .f32) .oge x (Ideal.ofBits .f32 0x00000000#32)) x
    (Ideal.ofBits .f32 0x3C23D70A#32 * x)

/-- The table row that a code names, of the two rows a code may name. -/
def code (R : ℕ) (h : 2 ≤ R) (v : BitVec 32) : Fin R := if v = 1#32 then ⟨1, h⟩ else ⟨0, by omega⟩

/-- Row `r` of a table times the rows of `W` from `off` on, at column `n`. -/
def tab {R C : ℕ} (e : Arr2 EReal R C) (W : Arr2 EReal 21 64) (off : ℕ) (h : off + C ≤ 21) (r : Fin R) (n : Fin 64) : EReal :=
  ∑ j : Fin C, e (ix2 r j) * W (ix2 ⟨off + j.val, by omega⟩ n)

section
variable (num : Arr3 EReal 4096 200 8) (cc : Arr3 (BitVec 32) 4096 200 4) (y : Arr3 EReal 4096 200 1)
  (e0 : Arr2 EReal 8 5) (e1 e2 : Arr2 EReal 2 2) (e3 : Arr2 EReal 6 3) (W : Arr2 EReal 21 64) (b : Arr1 EReal 64)

/-- The linear layer before the rectifier: the four looked-up rows, the eight numbers and the last input against their
    rows of `W`, and the bias. -/
def lin (s : Fin 4096) (l : Fin 200) (n : Fin 64) : EReal :=
  tab e0 W 0 (by decide) (code 8 (by decide) (cc (ix3 s l 0))) n
    + tab e1 W 5 (by decide) (code 2 (by decide) (cc (ix3 s l 1))) n
    + tab e2 W 7 (by decide) (code 2 (by decide) (cc (ix3 s l 2))) n
    + tab e3 W 9 (by decide) (code 6 (by decide) (cc (ix3 s l 3))) n
    + ∑ i : Fin 8, num (ix3 s l i) * W (ix2 ⟨12 + i.val, by omega⟩ n)
    + y (ix3 s l 0) * W (ix2 20 n) + b (ix1 n)

/-- The whole result array. -/
def out : Arr3 EReal 4096 200 64 := fun i => leaky (lin num cc y e0 e1 e2 e3 W b (i 0) (i 1) (i 2))

end

/-! ## Sums by pieces -/

/-- The sum over thirteen terms as eight, four and one. -/
theorem sum13 (f : Fin 13 → EReal) :
    ∑ k, f k = ∑ i : Fin 8, f ⟨i.val, by omega⟩ + ∑ k : Fin 4, f ⟨8 + k.val, by omega⟩ + f 12 := by
  rw [Fin.sum_univ_castSucc, Fin.sum_univ_add (a := 8) (b := 4) (fun k => f k.castSucc)]; rfl

/-- The sum over twenty-one terms as five, two, two, three, eight and one. -/
theorem sum21 (f : Fin 21 → EReal) :
    ∑ k, f k = ∑ j : Fin 5, f ⟨0 + j.val, by omega⟩ + ∑ j : Fin 2, f ⟨5 + j.val, by omega⟩
      + ∑ j : Fin 2, f ⟨7 + j.val, by omega⟩ + ∑ j : Fin 3, f ⟨9 + j.val, by omega⟩
      + ∑ i : Fin 8, f ⟨12 + i.val, by omega⟩ + f 20 := by
  rw [Fin.sum_univ_castSucc, Fin.sum_univ_add (a := 12) (b := 8) (fun k => f k.castSucc),
    Fin.sum_univ_add (a := 9) (b := 3) (fun k => f (Fin.castAdd 8 k).castSucc),
    Fin.sum_univ_add (a := 7) (b := 2) (fun k => f (Fin.castAdd 8 (Fin.castAdd 3 k)).castSucc),
    Fin.sum_univ_add (a := 5) (b := 2) (fun k => f (Fin.castAdd 8 (Fin.castAdd 3 (Fin.castAdd 2 k))).castSucc)]
  simp only [Nat.zero_add]; rfl

/-! ## The blend of two rows -/

/-- An extended real that is a real number. -/
def IsReal (x : EReal) : Prop := ∃ r : ℝ, x = (r : EReal)

/-- A product of two reals is real. -/
theorem IsReal.mul {x y : EReal} : IsReal x → IsReal y → IsReal (x * y)
  | ⟨r, hr⟩, ⟨s, hs⟩ => ⟨r * s, by rw [hr, hs, EReal.coe_mul]⟩

/-- A finite sum of reals is real. -/
theorem IsReal.sum {n : ℕ} (f : Fin n → EReal) (h : ∀ j, IsReal (f j)) : IsReal (∑ j, f j) :=
  Finset.sum_induction f IsReal (fun _ _ ⟨r, hr⟩ ⟨s, hs⟩ => ⟨r + s, by rw [hr, hs, EReal.coe_add]⟩) ⟨0, rfl⟩ fun j _ => h j

/-- A row of real entries against real weights is real. -/
theorem tab_real {R C : ℕ} (e : Arr2 EReal R C) (W : Arr2 EReal 21 64) (off : ℕ) (h : off + C ≤ 21) (r : Fin R) (n : Fin 64)
    (he : ∀ j, IsReal (e (ix2 r j))) (hW : ∀ j : Fin C, IsReal (W (ix2 ⟨off + j.val, by omega⟩ n))) :
    IsReal (tab e W off h r n) :=
  .sum _ fun j => (he j).mul (hW j)

/-- Adding a real number and taking it off again changes no extended real. -/
theorem real_add_sub (r : ℝ) (x : EReal) : (r : EReal) + (x - (r : EReal)) = x := by
  induction x using EReal.rec with
  | bot => rw [EReal.bot_sub, EReal.add_bot]
  | top => rw [EReal.top_sub_coe, EReal.coe_add_top]
  | coe s => rw [← EReal.coe_sub, ← EReal.coe_add, add_sub_cancel]

/-- The row a code names, from the two rows `x 0`, `x 1` it may name: the first, which is real, plus the code times
    their difference. -/
theorem blend {R : ℕ} (h : 2 ≤ R) (x : Fin R → EReal) (h0 : IsReal (x ⟨0, by omega⟩)) (v : BitVec 32)
    (hv : v = 0#32 ∨ v = 1#32) :
    x ⟨0, by omega⟩ + (x ⟨1, h⟩ - x ⟨0, by omega⟩) * ((v.toInt : ℝ) : EReal) = x (code R h v) := by
  rcases hv with rfl | rfl
  · have e : code R h 0#32 = ⟨0, by omega⟩ := if_neg (by decide)
    rw [e, show ((0#32 : BitVec 32).toInt : ℝ) = 0 by norm_num, EReal.coe_zero, mul_zero, add_zero]
  · have e : code R h 1#32 = ⟨1, h⟩ := if_pos rfl
    obtain ⟨r, hr⟩ := h0
    rw [e, hr, show ((1#32 : BitVec 32).toInt : ℝ) = 1 by norm_num, EReal.coe_one, mul_one, real_add_sub]

/-- Regrouping the kernel's sum: the bias with the four first rows, and the four differences times the codes. -/
theorem regroup (a d0 d1 d2 d3 q b t0 t1 t2 t3 : EReal) :
    a + (d0 + d1 + d2 + d3) + q + (b + t0 + t1 + t2 + t3)
      = (t0 + d0) + (t1 + d1) + (t2 + d2) + (t3 + d3) + a + q + b := by
  abel

end Cert.Encoder

end
-- ==== Proof.Block.lean ====
/-
  What the body leaves in its output block: twenty slices of one form, each the leaky rectifier of a thirteen-row
  product plus a bias column.
-/
module

public import proofs.«01_k».proof.Proof.Gen.KernelIdeal.Frame
public import proofs.«01_k».proof.Proof.Spec
public import Idealize.ShloMosaic.Lib.Pipeline.Value
public import Idealize.ShloMosaic.Lib.Pipeline.ValueKit.Tiles
public import Idealize.ShloMosaic.Lib.MatmulPlain

@[expose] public section

set_option maxRecDepth 16384

noncomputable section

namespace Cert.KernelIdeal.Block

open Idealize.ShloMosaic Idealize.ShloMosaic.TcCoe Idealize.ShloMosaic.ValueIdx
open Cert.Encoder Cert.KernelIdeal.Facts₀ Cert.KernelIdeal.Facts
open scoped BigOperators

section AnyFloat
variable {F : FTy → Type} [FloatOps F]

/-- The three groups of rows one slice multiplies: the eight numbers, the four codes as floats, the last input. -/
def groups (num : Vec F S1x8x4096 .f32) (cc : Vec F S1x4x4096 .i32) (y : Vec F S1x1x4096 .f32) :
    List ((s : Shape) × (s.Idx → F .f32)) :=
  [⟨S8x4096, shapeCast S8x4096 num shapeCasts_S1x8x4096_S8x4096⟩,
    ⟨S4x4096, (sitofp .f32 (shapeCast S4x4096 cc shapeCasts_S1x4x4096_S4x4096) : FVec F S4x4096 .f32)⟩,
    ⟨S1x4096, shapeCast S1x4096 y shapeCasts_S1x1x4096_S1x4096⟩]

/-- Those rows as one array of thirteen. -/
def rows (num : Vec F S1x8x4096 .f32) (cc : Vec F S1x4x4096 .i32) (y : Vec F S1x1x4096 .f32) : FVec F S13x4096 .f32 :=
  concatenate S13x4096 0 (groups num cc y) concatenates_S8x4096_S4x4096_S1x4096_S13x4096_d0

/-- The slice before the rectifier: the product with the weights, plus the bias column. -/
def acc (w : Vec F S64x13 .f32) (num : Vec F S1x8x4096 .f32) (cc : Vec F S1x4x4096 .i32) (y : Vec F S1x1x4096 .f32)
    (b : Vec F S64x1 .f32) : FVec F S64x4096 .f32 :=
  addf (matmul dot_S64x13_S13x4096_S64x4096_1_0_0_1_n_n none (shapeCast S64x13 w shapeCasts_S64x13_S64x13) (rows num cc y)
      (constant S64x4096 .f32 0x00000000#32))
    (broadcastTo S64x4096 (shapeCast S64x1 b shapeCasts_S64x1_S64x1) broadcasts_S64x1_S64x4096)

/-- One slice, rectified, as the body stores it. -/
def slice (w : Vec F S64x13 .f32) (num : Vec F S1x8x4096 .f32) (cc : Vec F S1x4x4096 .i32) (y : Vec F S1x1x4096 .f32)
    (b : Vec F S64x1 .f32) : FVec F S1x64x4096 .f32 :=
  shapeCast S1x64x4096
    (select (cmpf .oge (acc w num cc y b) (broadcast S64x4096 (Scalar.ofBits .f32 0x00000000#32))) (acc w num cc y b)
      (mulf (broadcast S64x4096 (Scalar.ofBits .f32 0x3C23D70A#32)) (acc w num cc y b)))
    shapeCasts_S64x4096_S1x64x4096

/-- Slice `n` of a twenty-slice array lies inside it. -/
theorem slab_inb (n R : ℕ) (h : n < 20) : ∀ a, (![n, 0, 0] : Fin 3 → ℕ) a + (![1, R, 4096] : Fin 3 → ℕ) a ≤ (![20, R, 4096] : Fin 3 → ℕ) a := by
  intro a
  match a with
  | ⟨0, _⟩ => show n + 1 ≤ 20; omega
  | ⟨1, _⟩ => show 0 + R ≤ R; omega
  | ⟨2, _⟩ => show 0 + 4096 ≤ 4096; omega

/-- Slice `n` of the output block, as the body stores it. -/
def piece (x0 : Vec F S20x8x4096 .f32) (x1 : Vec F S20x4x4096 .i32) (x2 : Vec F S20x1x4096 .f32) (x3 : Vec F S64x13 .f32)
    (x4 : Vec F S64x1 .f32) (n : ℕ) (h : n < 20) : View.Piece (Elt F) S20x64x4096 .f32 :=
  ⟨Rect.unit (s := S20x64x4096) ![n, 0, 0] S1x64x4096.size (slab_inb n 64 h),
    slice (View.ld x3 (Rect.unit (s := S64x13) ![0, 0] S64x13.size inb_S64x13_S64x13_0_0))
      (View.ld x0 (Rect.unit (s := S20x8x4096) ![n, 0, 0] S1x8x4096.size (slab_inb n 8 h)))
      (View.ld x1 (Rect.unit (s := S20x4x4096) ![n, 0, 0] S1x4x4096.size (slab_inb n 4 h)))
      (View.ld x2 (Rect.unit (s := S20x1x4096) ![n, 0, 0] S1x1x4096.size (slab_inb n 1 h)))
      (View.ld x4 (Rect.unit (s := S64x1) ![0, 0] S64x1.size inb_S64x1_S64x1_0_0))⟩

/-- The body's first `n` stores, the last one first. -/
def pieces (x0 : Vec F S20x8x4096 .f32) (x1 : Vec F S20x4x4096 .i32) (x2 : Vec F S20x1x4096 .f32) (x3 : Vec F S64x13 .f32)
    (x4 : Vec F S64x1 .f32) : (n : ℕ) → n ≤ 20 → List (View.Piece (Elt F) S20x64x4096 .f32)
  | 0, _ => []
  | n + 1, h => piece x0 x1 x2 x3 x4 n h :: pieces x0 x1 x2 x3 x4 n (Nat.le_of_succ_le h)

/-- The generated block value is these twenty pieces. -/
theorem out_eq_pieces (x0 : Vec F S20x8x4096 .f32) (x1 : Vec F S20x4x4096 .i32) (x2 : Vec F S20x1x4096 .f32)
    (x3 : Vec F S64x13 .f32) (x4 : Vec F S64x1 .f32) :
    Gen.out0_5 x0 x1 x2 x3 x4 = View.canon (pieces x0 x1 x2 x3 x4 20 le_rfl) := rfl

/-- Every piece is one of the twenty. -/
theorem mem_pieces (x0 : Vec F S20x8x4096 .f32) (x1 : Vec F S20x4x4096 .i32) (x2 : Vec F S20x1x4096 .f32)
    (x3 : Vec F S64x13 .f32) (x4 : Vec F S64x1 .f32) :
    ∀ (n : ℕ) (h : n ≤ 20) (p), p ∈ pieces x0 x1 x2 x3 x4 n h → ∃ k, ∃ hk : k < 20, p = piece x0 x1 x2 x3 x4 k hk
  | 0, _, _, hp => absurd hp List.not_mem_nil
  | n + 1, h, p, hp => by
    rcases List.mem_cons.mp hp with rfl | hp
    · exact ⟨n, h, rfl⟩
    · exact mem_pieces x0 x1 x2 x3 x4 n _ p hp

/-- Each of the twenty is among the pieces. -/
theorem piece_mem (x0 : Vec F S20x8x4096 .f32) (x1 : Vec F S20x4x4096 .i32) (x2 : Vec F S20x1x4096 .f32)
    (x3 : Vec F S64x13 .f32) (x4 : Vec F S64x1 .f32) (k : ℕ) (hk : k < 20) :
    ∀ (n : ℕ) (h : n ≤ 20), k < n → piece x0 x1 x2 x3 x4 k hk ∈ pieces x0 x1 x2 x3 x4 n h
  | 0, _, hn => absurd hn (Nat.not_lt_zero _)
  | n + 1, h, hn => by
    rcases Nat.lt_succ_iff_lt_or_eq.mp hn with hl | rfl
    · exact List.mem_cons_of_mem _ (piece_mem x0 x1 x2 x3 x4 k hk n _ hl)
    · exact List.mem_cons_self

end AnyFloat

/-! ## At the ideal values -/

/-- The thirteen entries of column `q` of slice `p` of a block: numbers, codes, last input. -/
def entry {L B : ℕ} (x0 : Arr3 EReal L 8 B) (x1 : Arr3 (BitVec 32) L 4 B) (x2 : Arr3 EReal L 1 B) (p : Fin L) (q : Fin B)
    (k : Fin 13) : EReal :=
  if h : k.val < 8 then x0 (ix3 p ⟨k.val, h⟩ q)
  else if h' : k.val < 12 then (((x1 (ix3 p ⟨k.val - 8, by omega⟩ q)).toInt : ℝ) : EReal) else x2 (ix3 p 0 q)

/-- The rectified cell at slice `p`, row `r`, column `q`. -/
def cell {L B : ℕ} (x0 : Arr3 EReal L 8 B) (x1 : Arr3 (BitVec 32) L 4 B) (x2 : Arr3 EReal L 1 B) (x3 : Arr2 EReal 64 13)
    (x4 : Arr2 EReal 64 1) (p : Fin L) (r : Fin 64) (q : Fin B) : EReal :=
  leaky (∑ k : Fin 13, x3 (ix2 r k) * entry x0 x1 x2 p q k + x4 (ix2 r 0))

/-- The rows of one slice read at a row and a column. -/
theorem rows_apply (num : Vec Ideal S1x8x4096 .f32) (cc : Vec Ideal S1x4x4096 .i32) (y : Vec Ideal S1x1x4096 .f32)
    (k : Fin 13) (q : Fin 4096) : rows num cc y (ix2 k q) = entry num cc y 0 q k := by
  unfold entry rows
  split
  · rename_i h
    refine Eq.trans (concatenate_apply_piece (t := S13x4096) 0 (groups num cc y) _ _ 0 (show 0 < 3 by decide) S8x4096 _ rfl rfl 0 rfl (ix2 ⟨k.val, h⟩ q) ?_ ?_) ?_
    · intro b hb; match b with
      | ⟨0, _⟩ => exact absurd rfl hb
      | ⟨1, _⟩ => rfl
    · exact Nat.zero_add _
    · exact (shapeCast_dropUnit_apply _ _ _ _).trans (congrArg num (eq_ix3 _))
  · rename_i h
    split
    · rename_i h'
      refine Eq.trans (concatenate_apply_piece (t := S13x4096) 0 (groups num cc y) _ _ 1 (show 1 < 3 by decide) S4x4096 _ rfl rfl 8 rfl (ix2 ⟨k.val - 8, by omega⟩ q) ?_ ?_) ?_
      · intro b hb; match b with
        | ⟨0, _⟩ => exact absurd rfl hb
        | ⟨1, _⟩ => rfl
      · show 8 + (k.val - 8) = k.val; omega
      · rw [sitofp_apply]
        exact congrArg (fun v : BitVec 32 => ((v.toInt : ℝ) : EReal))
          ((shapeCast_dropUnit_apply _ _ _ _).trans (congrArg cc (eq_ix3 _)))
    · rename_i h'
      refine Eq.trans (concatenate_apply_piece (t := S13x4096) 0 (groups num cc y) _ _ 2 (show 2 < 3 by decide) S1x4096 _ rfl rfl 12 rfl (ix2 0 q) ?_ ?_) ?_
      · intro b hb; match b with
        | ⟨0, _⟩ => exact absurd rfl hb
        | ⟨1, _⟩ => rfl
      · show 12 + 0 = k.val; have := k.isLt; omega
      · exact (shapeCast_dropUnit_apply _ _ _ _).trans (congrArg y (eq_ix3 _))

/-- The slice before the rectifier, read at a row and a column. -/
theorem acc_apply (w : Vec Ideal S64x13 .f32) (num : Vec Ideal S1x8x4096 .f32) (cc : Vec Ideal S1x4x4096 .i32)
    (y : Vec Ideal S1x1x4096 .f32) (b : Vec Ideal S64x1 .f32) (r : Fin 64) (q : Fin 4096) :
    acc w num cc y b (ix2 r q) = ∑ k : Fin 13, w (ix2 r k) * entry num cc y 0 q k + b (ix2 r 0) := by
  unfold acc
  rw [addf_apply, shapeCast_self, shapeCast_self]
  congr 1
  · refine (Ideal.matmul_plain_apply none w (rows num cc y) _ r q).trans ?_
    rw [show (constant S64x4096 .f32 0x00000000#32 : FVec Ideal S64x4096 .f32) (ix2 r q) = 0 from Ideal.ofBits_zero_f32, zero_add]
    exact Finset.sum_congr rfl fun k _ => congrArg _ (rows_apply num cc y k q)
  · refine broadcastTo_apply _ _ _ _ fun a => ?_
    match a with
    | ⟨0, _⟩ => rfl
    | ⟨1, _⟩ => rfl

/-- One slice read at an index. -/
theorem slice_apply (w : Vec Ideal S64x13 .f32) (num : Vec Ideal S1x8x4096 .f32) (cc : Vec Ideal S1x4x4096 .i32)
    (y : Vec Ideal S1x1x4096 .f32) (b : Vec Ideal S64x1 .f32) (z : Fin 1) (r : Fin 64) (q : Fin 4096) :
    slice w num cc y b (ix3 z r q) = cell num cc y w b 0 r q := by
  refine (shapeCast_addUnit_apply _ _ _ _).trans ?_
  rw [show (fun a : Fin 2 => (ix3 z r q) a.succ) = ix2 r q from eq_ix2 _]
  show leaky (acc w num cc y b (ix2 r q) : EReal) = _
  rw [acc_apply]; rfl

/-- The pair of zero offsets. -/
theorem zeros2 : (![0, 0] : Fin 2 → ℕ) = fun _ => 0 := funext fun a => by match a with | ⟨0, _⟩ => rfl | ⟨1, _⟩ => rfl

/-- Slice `n` of a twenty-slice array, read at a row and a column. -/
theorem ld_slab {e : EltTy} {R : ℕ} (X : (⟨3, ![20, R, 4096]⟩ : Shape).Idx → Elt Ideal e) (n : ℕ) (hn : n < 20) (k : Fin R) (q : Fin 4096) :
    View.ld X (Rect.unit (s := ⟨3, ![20, R, 4096]⟩) ![n, 0, 0] ![1, R, 4096] (slab_inb n R hn)) (ix3 (0 : Fin 1) k q)
      = X (ix3 ⟨n, hn⟩ k q) := by
  refine View.ld_unit_apply_of _ _ _ _ _ _ fun a => ?_
  match a with
  | ⟨0, _⟩ => exact (Nat.add_zero n).symm
  | ⟨1, _⟩ => exact (Nat.zero_add k.val).symm
  | ⟨2, _⟩ => exact (Nat.zero_add q.val).symm

/-- The cell of the loaded slices is the blocks' cell at that slice. -/
theorem cell_ld (x0 : Vec Ideal S20x8x4096 .f32) (x1 : Vec Ideal S20x4x4096 .i32) (x2 : Vec Ideal S20x1x4096 .f32)
    (x3 : Vec Ideal S64x13 .f32) (x4 : Vec Ideal S64x1 .f32) (n : ℕ) (hn : n < 20) (r : Fin 64) (q : Fin 4096) :
    cell (L := 1) (View.ld x0 (Rect.unit (s := S20x8x4096) ![n, 0, 0] S1x8x4096.size (slab_inb n 8 hn)))
      (View.ld x1 (Rect.unit (s := S20x4x4096) ![n, 0, 0] S1x4x4096.size (slab_inb n 4 hn)))
      (View.ld x2 (Rect.unit (s := S20x1x4096) ![n, 0, 0] S1x1x4096.size (slab_inb n 1 hn))) x3 x4 0 r q
      = cell x0 x1 x2 x3 x4 ⟨n, hn⟩ r q := by
  unfold cell
  refine congrArg (fun v => leaky (v + _)) (Finset.sum_congr rfl fun k _ => congrArg _ ?_)
  unfold entry
  split
  · exact ld_slab (e := .f32) x0 n hn _ q
  · split
    · exact congrArg (fun v : BitVec 32 => ((v.toInt : ℝ) : EReal)) (ld_slab (e := .i32) x1 n hn _ q)
    · exact ld_slab (e := .f32) x2 n hn 0 q

/-- The output block at an index: its cell. -/
theorem out_apply (x0 : Vec Ideal S20x8x4096 .f32) (x1 : Vec Ideal S20x4x4096 .i32) (x2 : Vec Ideal S20x1x4096 .f32)
    (x3 : Vec Ideal S64x13 .f32) (x4 : Vec Ideal S64x1 .f32) (i : S20x64x4096.Idx) :
    Gen.out0_5 x0 x1 x2 x3 x4 i = cell x0 x1 x2 x3 x4 (i 0) (i 1) (i 2) := by
  rw [out_eq_pieces]
  refine View.canon_apply_of_pieces (Val := Elt Ideal) (e := .f32) (fun i : S20x64x4096.Idx => (cell x0 x1 x2 x3 x4 (i 0) (i 1) (i 2) : Elt Ideal .f32)) _ ?_ i ?_
  · intro p hp x
    obtain ⟨n, hn, rfl⟩ := mem_pieces x0 x1 x2 x3 x4 20 le_rfl p hp
    obtain ⟨z, r, q, rfl⟩ : ∃ (z : Fin 1) (r : Fin 64) (q : Fin 4096), x = ix3 z r q := ⟨x 0, x 1, x 2, eq_ix3 x⟩
    refine (slice_apply _ _ _ _ _ z r q).trans ?_
    have e0 : ((Rect.unit (s := S20x64x4096) ![n, 0, 0] S1x64x4096.size (slab_inb n 64 hn)).emb (ix3 z r q)) = ix3 ⟨n, hn⟩ r q := by
      funext a; apply Fin.ext; rw [Rect.emb_apply]
      match a with
      | ⟨0, _⟩ => show n + 1 * z.val = n; omega
      | ⟨1, _⟩ => show 0 + 1 * r.val = r.val; omega
      | ⟨2, _⟩ => show 0 + 1 * q.val = q.val; omega
    refine Eq.trans ?_ (congrArg (fun i : S20x64x4096.Idx => (cell x0 x1 x2 x3 x4 (i 0) (i 1) (i 2) : EReal)) e0.symm)
    show cell _ _ _ _ _ 0 r q = cell x0 x1 x2 x3 x4 ⟨n, hn⟩ r q
    have hw : View.ld (Val := Elt Ideal) (e' := .f32) x3 (Rect.unit (s := S64x13) ![0, 0] S64x13.size inb_S64x13_S64x13_0_0) = x3 :=
      View.ld_unit_zero zeros2 _ _
    have hb : View.ld (Val := Elt Ideal) (e' := .f32) x4 (Rect.unit (s := S64x1) ![0, 0] S64x1.size inb_S64x1_S64x1_0_0) = x4 :=
      View.ld_unit_zero zeros2 _ _
    rw [hw, hb]
    exact cell_ld x0 x1 x2 x3 x4 n hn r q
  · refine ⟨_, piece_mem x0 x1 x2 x3 x4 (i 0).val (i 0).isLt 20 le_rfl (i 0).isLt, ?_⟩
    refine (Rect.mem_set_unit (inb := slab_inb (i 0).val 64 (i 0).isLt)).mpr fun a => ?_
    match a with
    | ⟨0, _⟩ => exact ⟨le_rfl, Nat.lt_succ_self _⟩
    | ⟨1, _⟩ => exact ⟨Nat.zero_le _, (Nat.zero_add 64).symm ▸ (i 1).isLt⟩
    | ⟨2, _⟩ => exact ⟨Nat.zero_le _, (Nat.zero_add 4096).symm ▸ (i 2).isLt⟩

end Cert.KernelIdeal.Block

end
-- ==== Proof.Array.lean ====
/-
  What the region's result array holds: at every time step, output column and batch entry, the cell of the arrays the
  region finds.
-/
module

public import proofs.«01_k».proof.Proof.Block

@[expose] public section

set_option maxRecDepth 16384

noncomputable section

namespace Cert.KernelIdeal.Whole

open Idealize.ShloMosaic Idealize.ShloMosaic.TcCoe Idealize.ShloMosaic.ValueIdx
open Idealize.ShloMosaic.Pipeline (Dat Window)
open Cert.Encoder Cert.KernelIdeal.Gen Cert.KernelIdeal.Block

variable (m : (ℓ : Loc nD τ sig) → Buf (Elt Ideal) ℓ) (c : Dev nD)

/-- The result array the region leaves. -/
def G : Arr3 EReal 200 64 4096 := fun i =>
  cell (V m c main_v50) (V m c main_v51) (V m c main_v52) (V m c main_v49) (V m c main_v20) (i 0) (i 1) (i 2)

/-- Point `t` works on the twenty time steps from `20 t` on: where the numbers' block starts. -/
theorem start0 : ∀ t : Fin cfg0.N, win0_0.index t 0 * win0_0.size 0 = t.val * 20 ∧ win0_0.index t 1 * win0_0.size 1 = 0
    ∧ win0_0.index t 2 * win0_0.size 2 = 0 := by decide +kernel
/-- Where the codes' block starts at point `t`. -/
theorem start1 : ∀ t : Fin cfg0.N, win0_1.index t 0 * win0_1.size 0 = t.val * 20 ∧ win0_1.index t 1 * win0_1.size 1 = 0
    ∧ win0_1.index t 2 * win0_1.size 2 = 0 := by decide +kernel
/-- Where the last input's block starts at point `t`. -/
theorem start2 : ∀ t : Fin cfg0.N, win0_2.index t 0 * win0_2.size 0 = t.val * 20 ∧ win0_2.index t 1 * win0_2.size 1 = 0
    ∧ win0_2.index t 2 * win0_2.size 2 = 0 := by decide +kernel
/-- The weights' block starts at the weights' start. -/
theorem start3 : ∀ t : Fin cfg0.N, win0_3.index t 0 * win0_3.size 0 = 0 ∧ win0_3.index t 1 * win0_3.size 1 = 0 := by decide +kernel
/-- The bias column's block starts at its start. -/
theorem start4 : ∀ t : Fin cfg0.N, win0_4.index t 0 * win0_4.size 0 = 0 ∧ win0_4.index t 1 * win0_4.size 1 = 0 := by decide +kernel
/-- Where the output block starts at point `t`. -/
theorem start5 : ∀ t : Fin cfg0.N, win0_5.index t 0 * win0_5.size 0 = t.val * 20 ∧ win0_5.index t 1 * win0_5.size 1 = 0
    ∧ win0_5.index t 2 * win0_5.size 2 = 0 := by decide +kernel
/-- The output block's extents. -/
theorem size5 : ∀ t : Fin cfg0.N, win0_5.xsize (grid0.coords t) 0 = 20 ∧ win0_5.xsize (grid0.coords t) 1 = 64
    ∧ win0_5.xsize (grid0.coords t) 2 = 4096 := by decide +kernel

/-- Time step `p` of point `t`'s block, in the whole array. -/
def step (t : Fin cfg0.N) (p : Fin 20) : Fin 200 :=
  ⟨t.val * 20 + p.val, by have h : t.val < 10 := lt_of_lt_of_eq t.isLt N_0; have := p.isLt; omega⟩

/-- The block of numbers the region reads at point `t`. -/
theorem block0 (t : Fin cfg0.N) (p : Fin 20) (k : Fin 8) (q : Fin 4096) :
    iblk m c 0 t (ix3 p k q) = V m c main_v50 (ix3 (step t p) k q) := by
  refine congrArg (V m c main_v50) (funext fun a => Fin.ext ?_)
  refine (Window.rect_emb_val win0_0 t _ a).trans ?_
  match a with
  | ⟨0, _⟩ => exact congrArg (· + p.val) (start0 t).1
  | ⟨1, _⟩ => exact (congrArg (· + k.val) (start0 t).2.1).trans (Nat.zero_add _)
  | ⟨2, _⟩ => exact (congrArg (· + q.val) (start0 t).2.2).trans (Nat.zero_add _)
/-- The block of codes the region reads at point `t`. -/
theorem block1 (t : Fin cfg0.N) (p : Fin 20) (k : Fin 4) (q : Fin 4096) :
    iblk m c 1 t (ix3 p k q) = V m c main_v51 (ix3 (step t p) k q) := by
  refine congrArg (V m c main_v51) (funext fun a => Fin.ext ?_)
  refine (Window.rect_emb_val win0_1 t _ a).trans ?_
  match a with
  | ⟨0, _⟩ => exact congrArg (· + p.val) (start1 t).1
  | ⟨1, _⟩ => exact (congrArg (· + k.val) (start1 t).2.1).trans (Nat.zero_add _)
  | ⟨2, _⟩ => exact (congrArg (· + q.val) (start1 t).2.2).trans (Nat.zero_add _)
/-- The block of the last input the region reads at point `t`. -/
theorem block2 (t : Fin cfg0.N) (p : Fin 20) (k : Fin 1) (q : Fin 4096) :
    iblk m c 2 t (ix3 p k q) = V m c main_v52 (ix3 (step t p) k q) := by
  refine congrArg (V m c main_v52) (funext fun a => Fin.ext ?_)
  refine (Window.rect_emb_val win0_2 t _ a).trans ?_
  match a with
  | ⟨0, _⟩ => exact congrArg (· + p.val) (start2 t).1
  | ⟨1, _⟩ => exact (congrArg (· + k.val) (start2 t).2.1).trans (Nat.zero_add _)
  | ⟨2, _⟩ => exact (congrArg (· + q.val) (start2 t).2.2).trans (Nat.zero_add _)
/-- The weights the region reads at any point. -/
theorem block3 (t : Fin cfg0.N) (r : Fin 64) (k : Fin 13) : iblk m c 3 t (ix2 r k) = V m c main_v49 (ix2 r k) := by
  refine congrArg (V m c main_v49) (funext fun a => Fin.ext ?_)
  refine (Window.rect_emb_val win0_3 t _ a).trans ?_
  match a with
  | ⟨0, _⟩ => exact (congrArg (· + r.val) (start3 t).1).trans (Nat.zero_add _)
  | ⟨1, _⟩ => exact (congrArg (· + k.val) (start3 t).2).trans (Nat.zero_add _)
/-- The bias column the region reads at any point. -/
theorem block4 (t : Fin cfg0.N) (r : Fin 64) (k : Fin 1) : iblk m c 4 t (ix2 r k) = V m c main_v20 (ix2 r k) := by
  refine congrArg (V m c main_v20) (funext fun a => Fin.ext ?_)
  refine (Window.rect_emb_val win0_4 t _ a).trans ?_
  match a with
  | ⟨0, _⟩ => exact (congrArg (· + r.val) (start4 t).1).trans (Nat.zero_add _)
  | ⟨1, _⟩ => exact (congrArg (· + k.val) (start4 t).2).trans (Nat.zero_add _)

/-- The cell of the blocks at point `t` is the arrays' cell at that time step. -/
theorem cell_blocks (t : Fin cfg0.N) (p : Fin 20) (r : Fin 64) (q : Fin 4096) :
    cell (L := 20) (B := 4096) (iblk m c 0 t) (iblk m c 1 t) (iblk m c 2 t) (iblk m c 3 t) (iblk m c 4 t) p r q
      = cell (L := 200) (B := 4096) (V m c main_v50) (V m c main_v51) (V m c main_v52) (V m c main_v49) (V m c main_v20) (step t p) r q := by
  unfold cell
  refine congrArg leaky (congrArg₂ (· + ·) (Finset.sum_congr rfl fun k _ => congrArg₂ (· * ·) (block3 m c t r k) ?_) (block4 m c t r 0))
  unfold entry
  split
  · exact block0 m c t p _ q
  · split
    · exact congrArg (fun v : BitVec 32 => ((v.toInt : ℝ) : EReal)) (block1 m c t p _ q)
    · exact block2 m c t p 0 q

/-- Entry `(p, r, q)` of point `t`'s output block, in the whole array. -/
theorem emb5 (t : Fin cfg0.N) (p : Fin 20) (r : Fin 64) (q : Fin 4096) :
    (win0_5.rect t).emb (ix3 p r q) = ix3 (step t p) r q := by
  funext a; apply Fin.ext
  refine (Window.rect_emb_val win0_5 t _ a).trans ?_
  match a with
  | ⟨0, _⟩ => exact congrArg (· + p.val) (start5 t).1
  | ⟨1, _⟩ => exact (congrArg (· + r.val) (start5 t).2.1).trans (Nat.zero_add _)
  | ⟨2, _⟩ => exact (congrArg (· + q.val) (start5 t).2.2).trans (Nat.zero_add _)

/-- The output block computed at point `t` is that block of the result. -/
theorem block5 (t : Fin cfg0.N) (i : S20x64x4096.Idx) :
    out0_5 (iblk m c 0 t) (iblk m c 1 t) (iblk m c 2 t) (iblk m c 3 t) (iblk m c 4 t) i = G m c ((win0_5.rect t).emb i) := by
  obtain ⟨p, r, q, rfl⟩ : ∃ (p : Fin 20) (r : Fin 64) (q : Fin 4096), i = ix3 p r q := ⟨i 0, i 1, i 2, eq_ix3 i⟩
  rw [out_apply, emb5]
  exact cell_blocks m c t p r q

/-- What point `t` writes back is its block of the result. -/
theorem flushed_eq (t : Fin cfg0.N) : (dats m 0 c).flushed 5 t = ((cfg0.win 5).blk t).view.read (Elt Ideal) (G m c) := by
  show (cfg0.win 5).cut (grid0.coords t) ((dats m 0 c).after 5 t) = _
  rw [after0_5]
  have key := block5 m c t
  generalize out0_5 (iblk m c 0 t) (iblk m c 1 t) (iblk m c 2 t) (iblk m c 3 t) (iblk m c 4 t) = o at key ⊢
  generalize G m c = g at key ⊢
  exact funext key

/-- Every entry of the result array lies in the block of the point its time step falls to. -/
theorem cover (i : S200x64x4096.Idx) : ∃ t : Fin cfg0.N, (cfg0.win 5).flush t = true ∧ i ∈ ((cfg0.win 5).blk t).view.set := by
  have h0 : (i 0).val < 200 := (i 0).isLt
  have h1 : (i 1).val < 64 := (i 1).isLt
  have h2 : (i 2).val < 4096 := (i 2).isLt
  have ht : (i 0).val / 20 < cfg0.N := lt_of_lt_of_eq (by omega : (i 0).val / 20 < 10) N_0.symm
  refine ⟨⟨(i 0).val / 20, ht⟩, flush0_5 _, ?_⟩
  show i ∈ ((View.whole main_v53).slice (win0_5.rect ⟨(i 0).val / 20, ht⟩)).set
  rw [View.set_slice_whole, Rect.mem_set_unit]
  obtain ⟨s0, s1, s2⟩ := start5 ⟨(i 0).val / 20, ht⟩
  obtain ⟨x0, x1, x2⟩ := size5 ⟨(i 0).val / 20, ht⟩
  have s0' : win0_5.index ⟨(i 0).val / 20, ht⟩ 0 * win0_5.size 0 = (i 0).val / 20 * 20 := s0
  intro a
  match a with
  | ⟨0, _⟩ =>
    show win0_5.index _ 0 * win0_5.size 0 ≤ (i 0).val ∧ (i 0).val < win0_5.index _ 0 * win0_5.size 0 + win0_5.xsize _ 0
    rw [s0', x0]; omega
  | ⟨1, _⟩ =>
    show win0_5.index _ 1 * win0_5.size 1 ≤ (i 1).val ∧ (i 1).val < win0_5.index _ 1 * win0_5.size 1 + win0_5.xsize _ 1
    rw [s1, x1]; omega
  | ⟨2, _⟩ =>
    show win0_5.index _ 2 * win0_5.size 2 ≤ (i 2).val ∧ (i 2).val < win0_5.index _ 2 * win0_5.size 2 + win0_5.xsize _ 2
    rw [s2, x2]; omega

/-- So the region's result array ends holding the cells. -/
theorem final : (dats m 0 c).arrAt 5 cfg0.N = G m c :=
  (dats m 0 c).arrAt_eq_of_cover 5 (G m c) (fun t _ => flushed_eq m c t) cover

/-- And the program's result, after the last transpose: batch entry first, then time step, then column. -/
theorem tail : Pipeline.afterTail₀ cfgs (dats m) 0 (V0 m) [hostOps1] c main_v54
    = transpose S4096x200x64 [2, 0, 1] (G m c) transposes_S200x64x4096_S4096x200x64_2_0_1 := by
  unfold Pipeline.afterTail₀
  exact congrArg (transpose S4096x200x64 [2, 0, 1] · transposes_S200x64x4096_S4096x200x64_2_0_1)
    ((Pipeline.withArrays_arr (cfgs 0).spec launch0.win.arr_inj c (V0 m c) (fun w => (dats m 0 c).arrAt w (cfgs 0).N) 5).trans (final m c))

/-- Every run ends with the result at that array. -/
theorem result (ρ : Dev nD → PrngReg) : θ_run defs (onTc (τ := τ) (main (F := Ideal))) ⟨m, fun _ => 0, ρ⟩ (fun r => ∀ c : Dev nD,
      r.2.mem ((c.tc : Thread nD τ).loc main_v54) = transpose S4096x200x64 [2, 0, 1] (G m c) transposes_S200x64x4096_S4096x200x64_2_0_1) :=
  (θ_run defs _ _).mono (fun _ h c =>
    ((h c).2 main_v54 (Pipeline.mem_restRefs_of main_v54 (by decide) (by decide))).trans (tail m c)) (run_main m ρ)

/-- Every run ends with the result at that array and every argument as it was. -/
theorem run (ρ : Dev nD → PrngReg) : θ_run defs (onTc (τ := τ) (main (F := Ideal))) ⟨m, fun _ => 0, ρ⟩ (fun r => ∀ c : Dev nD,
      r.2.mem ((c.tc : Thread nD τ).loc main_v54) = transpose S4096x200x64 [2, 0, 1] (G m c) transposes_S200x64x4096_S4096x200x64_2_0_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨h.1 c, h.2 c⟩)
    (θ_run_and (result m ρ) (unchanged m ρ))

end Cert.KernelIdeal.Whole

end
-- ==== Proof.Prefix.lean ====
/-
  What the region finds in its input arrays: the three transposed inputs, the thirteen rows of weights (eight rows of
  `W`, the four differences of the tables' first two rows, the last row of `W`), and the bias column.
-/
module

public import proofs.«01_k».proof.Proof.Gen.KernelIdeal.Frame
public import proofs.«01_k».proof.Proof.Spec
public import Idealize.ShloMosaic.Lib.Pipeline.Value
public import Idealize.ShloMosaic.Lib.MatmulPlain
public import Idealize.ShloMosaic.Lib.StackMember

@[expose] public section

noncomputable section

namespace Cert.KernelIdeal.Prefix

open Idealize.ShloMosaic Idealize.ShloMosaic.TcCoe Idealize.ShloMosaic.ValueIdx Idealize.SL.Sem
open Cert.Encoder Cert.KernelIdeal.Facts₀ Cert.KernelIdeal.Facts
open scoped BigOperators

section AnyFloat
variable {F : FTy → Type} [FloatOps F]

/-- Row `r` of a table of sixty-four columns, as a vector. -/
def row {R : ℕ} (M : FVec F ⟨2, ![R, 64]⟩ .f32) (r : ℕ) (h : (⟨2, ![R, 64]⟩ : Shape).Slices ![r, 0] S1x64) : FVec F S64 .f32 :=
  shapeCast S64 (extractStridedSlice S1x64 ![r, 0] M h) shapeCasts_S1x64_S64

/-- The four tables times their rows of `W`. -/
def m0 (e : FVec F S8x5 .f32) (W : FVec F S21x64 .f32) : FVec F S8x64 .f32 :=
  Host.dotGeneral dot_S8x5_S5x64_S8x64_1_0_0_1_n_n none e (extractStridedSlice S5x64 ![0, 0] W slices_S21x64_S5x64_0_0)
def m1 (e : FVec F S2x2 .f32) (W : FVec F S21x64 .f32) : FVec F S2x64 .f32 :=
  Host.dotGeneral dot_S2x2_S2x64_S2x64_1_0_0_1_n_n none e (extractStridedSlice S2x64 ![5, 0] W slices_S21x64_S2x64_5_0)
def m2 (e : FVec F S2x2 .f32) (W : FVec F S21x64 .f32) : FVec F S2x64 .f32 :=
  Host.dotGeneral dot_S2x2_S2x64_S2x64_1_0_0_1_n_n none e (extractStridedSlice S2x64 ![7, 0] W slices_S21x64_S2x64_7_0)
def m3 (e : FVec F S6x3 .f32) (W : FVec F S21x64 .f32) : FVec F S6x64 .f32 :=
  Host.dotGeneral dot_S6x3_S3x64_S6x64_1_0_0_1_n_n none e (extractStridedSlice S3x64 ![9, 0] W slices_S21x64_S3x64_9_0)

variable (W : FVec F S21x64 .f32) (b : FVec F S64 .f32) (t0 : FVec F S8x64 .f32) (t1 t2 : FVec F S2x64 .f32) (t3 : FVec F S6x64 .f32)

/-- The bias column: the bias plus the tables' first rows. -/
def bias : FVec F S64x1 .f32 :=
  shapeCast S64x1 (addf (addf (addf (addf b (row t0 0 slices_S8x64_S1x64_0_0)) (row t1 0 slices_S2x64_S1x64_0_0))
    (row t2 0 slices_S2x64_S1x64_0_0)) (row t3 0 slices_S6x64_S1x64_0_0)) shapeCasts_S64_S64x1

/-- The four differences of the tables' first two rows, each as a one-row array. -/
def diffs : List ((s : Shape) × (s.Idx → F .f32)) :=
  [⟨S1x64, broadcastInDim S1x64 ![1] bcast_S64_S1x64_1 (subf (row t0 1 slices_S8x64_S1x64_1_0) (row t0 0 slices_S8x64_S1x64_0_0))⟩,
   ⟨S1x64, broadcastInDim S1x64 ![1] bcast_S64_S1x64_1 (subf (row t1 1 slices_S2x64_S1x64_1_0) (row t1 0 slices_S2x64_S1x64_0_0))⟩,
   ⟨S1x64, broadcastInDim S1x64 ![1] bcast_S64_S1x64_1 (subf (row t2 1 slices_S2x64_S1x64_1_0) (row t2 0 slices_S2x64_S1x64_0_0))⟩,
   ⟨S1x64, broadcastInDim S1x64 ![1] bcast_S64_S1x64_1 (subf (row t3 1 slices_S6x64_S1x64_1_0) (row t3 0 slices_S6x64_S1x64_0_0))⟩]

/-- The three groups of weight rows. -/
def wgroups : List ((s : Shape) × (s.Idx → F .f32)) :=
  [⟨S8x64, extractStridedSlice S8x64 ![12, 0] W slices_S21x64_S8x64_12_0⟩,
   ⟨S4x64, concatenate S4x64 0 (diffs t0 t1 t2 t3) concatenates_S1x64_S1x64_S1x64_S1x64_S4x64_d0⟩,
   ⟨S1x64, extractStridedSlice S1x64 ![20, 0] W slices_S21x64_S1x64_20_0⟩]

/-- The thirteen weight rows, transposed. -/
def weights : FVec F S64x13 .f32 :=
  transpose S64x13 [1, 0] (concatenate S13x64 0 (wgroups W t0 t1 t2 t3) concatenates_S8x64_S4x64_S1x64_S13x64_d0)
    transposes_S13x64_S64x13_1_0

end AnyFloat

/-! ## What the region finds -/

section Found
variable {F : FTy → Type} [FloatOps F]
variable (m : (ℓ : Loc nD τ sig) → Buf (Elt F) ℓ) (c : Dev nD)

/-- The region finds each buffer after the host operations before it. -/
theorem V_eq (b : Ref sig .tc) : Gen.V m c b = StableHlo.after Gen.hostOps0 (fun b => m (c, b)) (Proc.devRef .tc b) :=
  congrArg (fun l => StableHlo.after l (fun b => m (c, b)) (Proc.devRef .tc b)) (List.append_nil Gen.hostOps0)

set_option maxHeartbeats 2000000 in
/-- The weights array. -/
theorem V_weights : Gen.V m c main_v49 = weights (m ((c : Thread nD τ).loc main_arg7))
      (m0 (m ((c : Thread nD τ).loc main_arg3)) (m ((c : Thread nD τ).loc main_arg7)))
      (m1 (m ((c : Thread nD τ).loc main_arg4)) (m ((c : Thread nD τ).loc main_arg7)))
      (m2 (m ((c : Thread nD τ).loc main_arg5)) (m ((c : Thread nD τ).loc main_arg7)))
      (m3 (m ((c : Thread nD τ).loc main_arg6)) (m ((c : Thread nD τ).loc main_arg7))) := by
  rw [V_eq]
  after_results_simp
  rfl

/-- The bias column. -/
theorem V_bias : Gen.V m c main_v20 = bias (m ((c : Thread nD τ).loc main_arg8))
      (m0 (m ((c : Thread nD τ).loc main_arg3)) (m ((c : Thread nD τ).loc main_arg7)))
      (m1 (m ((c : Thread nD τ).loc main_arg4)) (m ((c : Thread nD τ).loc main_arg7)))
      (m2 (m ((c : Thread nD τ).loc main_arg5)) (m ((c : Thread nD τ).loc main_arg7)))
      (m3 (m ((c : Thread nD τ).loc main_arg6)) (m ((c : Thread nD τ).loc main_arg7))) := by
  rw [V_eq]
  after_results_simp
  rfl

/-- The numbers, time step first and batch last. -/
theorem V_num : Gen.V m c main_v50 = transpose S200x8x4096 [1, 2, 0] (m ((c : Thread nD τ).loc main_arg0)) transposes_S4096x200x8_S200x8x4096_1_2_0 := by
  rw [V_eq]
  after_results_simp

/-- The codes, time step first and batch last. -/
theorem V_codes : Gen.V m c main_v51 = transpose S200x4x4096 [1, 2, 0] (m ((c : Thread nD τ).loc main_arg1)) transposes_S4096x200x4_S200x4x4096_1_2_0 := by
  rw [V_eq]
  after_results_simp

/-- The last input, time step first and batch last. -/
theorem V_y : Gen.V m c main_v52 = transpose S200x1x4096 [1, 2, 0] (m ((c : Thread nD τ).loc main_arg2)) transposes_S4096x200x1_S200x1x4096_1_2_0 := by
  rw [V_eq]
  after_results_simp

end Found

end Cert.KernelIdeal.Prefix

end
-- ==== Proof.Weights.lean ====
/-
  The weight rows and the bias column at the ideal values, entry by entry.
-/
module

public import proofs.«01_k».proof.Proof.Prefix

@[expose] public section

noncomputable section

namespace Cert.KernelIdeal.Prefix

open Idealize.ShloMosaic Idealize.ShloMosaic.ValueIdx
open Cert.Encoder Cert.KernelIdeal.Facts₀ Cert.KernelIdeal.Facts
open scoped BigOperators

/-- A block of rows of a sixty-four column array, read at an entry. -/
theorem rows_at {R r : ℕ} (W : FVec Ideal ⟨2, ![R, 64]⟩ .f32) (off : ℕ) (h : (⟨2, ![R, 64]⟩ : Shape).Slices ![off, 0] ⟨2, ![r, 64]⟩)
    (hr : off + r ≤ R) (j : Fin r) (n : Fin 64) :
    extractStridedSlice ⟨2, ![r, 64]⟩ ![off, 0] W h (ix2 j n) = W (ix2 ⟨off + j.val, by omega⟩ n) := by
  refine extractStridedSlice_apply _ _ _ _ _ fun a => ?_
  match a with
  | ⟨0, _⟩ => rfl
  | ⟨1, _⟩ => exact (Nat.zero_add _).symm

/-- A table times a block of rows of `W`, read at an entry. -/
theorem product_at {R C : ℕ} (e : FVec Ideal ⟨2, ![R, C]⟩ .f32) (W : FVec Ideal ⟨2, ![21, 64]⟩ .f32) (off : ℕ)
    (h : (⟨2, ![21, 64]⟩ : Shape).Slices ![off, 0] ⟨2, ![C, 64]⟩) (hC : off + C ≤ 21) (r : Fin R) (n : Fin 64) :
    Host.dotGeneral (DotDims.plain R C 64) none e (extractStridedSlice ⟨2, ![C, 64]⟩ ![off, 0] W h) (ix2 r n) = tab e W off hC r n :=
  (StackMember.dotGeneral_plain_apply none e _ r n).trans (Finset.sum_congr rfl fun j _ => congrArg _ (rows_at W off h hC j n))

/-- The first table's product with its rows of `W`, entry by entry. -/
theorem m0_at (e : FVec Ideal S8x5 .f32) (W : FVec Ideal S21x64 .f32) (r : Fin 8) (n : Fin 64) :
    m0 e W (ix2 r n) = tab e W 0 (by decide) r n := product_at e W 0 _ _ r n
/-- The second table's product with its rows of `W`, entry by entry. -/
theorem m1_at (e : FVec Ideal S2x2 .f32) (W : FVec Ideal S21x64 .f32) (r : Fin 2) (n : Fin 64) :
    m1 e W (ix2 r n) = tab e W 5 (by decide) r n := product_at e W 5 _ _ r n
/-- The third table's product with its rows of `W`, entry by entry. -/
theorem m2_at (e : FVec Ideal S2x2 .f32) (W : FVec Ideal S21x64 .f32) (r : Fin 2) (n : Fin 64) :
    m2 e W (ix2 r n) = tab e W 7 (by decide) r n := product_at e W 7 _ _ r n
/-- The fourth table's product with its rows of `W`, entry by entry. -/
theorem m3_at (e : FVec Ideal S6x3 .f32) (W : FVec Ideal S21x64 .f32) (r : Fin 6) (n : Fin 64) :
    m3 e W (ix2 r n) = tab e W 9 (by decide) r n := product_at e W 9 _ _ r n

/-- A table's row as a vector, read at an entry. -/
theorem row_at {R : ℕ} (M : FVec Ideal ⟨2, ![R, 64]⟩ .f32) (r : ℕ) (h : (⟨2, ![R, 64]⟩ : Shape).Slices ![r, 0] S1x64) (hr : r < R) (n : Fin 64) :
    row M r h (ix1 n) = M (ix2 ⟨r, hr⟩ n) := by
  refine (shapeCast_dropUnit_apply _ _ _ _).trans ?_
  exact (congrArg _ (eq_ix2 _)).trans (rows_at M r h (by omega) (0 : Fin 1) n)

/-- The difference of a table's first two rows, as a one-row array, read at an entry. -/
theorem diff_at {R : ℕ} (M : FVec Ideal ⟨2, ![R, 64]⟩ .f32) (h1 : (⟨2, ![R, 64]⟩ : Shape).Slices ![1, 0] S1x64)
    (h0 : (⟨2, ![R, 64]⟩ : Shape).Slices ![0, 0] S1x64) (hR : 2 ≤ R) (z : Fin 1) (n : Fin 64) :
    broadcastInDim S1x64 ![1] bcast_S64_S1x64_1 (subf (row M 1 h1) (row M 0 h0)) (ix2 z n)
      = M (ix2 ⟨1, hR⟩ n) - M (ix2 ⟨0, by omega⟩ n) := by
  refine (broadcastInDim_apply _ _ _ _ (ix1 n) fun a => ?_).trans ?_
  · match a with
    | ⟨0, _⟩ => rfl
  · rw [subf_apply, row_at M 1 h1 hR, row_at M 0 h0 (by omega)]

section
variable (W : FVec Ideal S21x64 .f32) (b : FVec Ideal S64 .f32) (t0 : FVec Ideal S8x64 .f32) (t1 t2 : FVec Ideal S2x64 .f32)
  (t3 : FVec Ideal S6x64 .f32) (n : Fin 64)

/-- The bias column read at an entry. -/
theorem bias_at (z : Fin 1) : bias b t0 t1 t2 t3 (ix2 n z)
    = b (ix1 n) + t0 (ix2 0 n) + t1 (ix2 0 n) + t2 (ix2 0 n) + t3 (ix2 0 n) := by
  refine (shapeCast_apply _ _ _ (ix1 n) ?_).trans ?_
  · rw [Shape.rowMajor_val_one, Shape.rowMajor_val_two]
    show n.val = n.val * 1 + z.val
    omega
  · rw [addf_apply, addf_apply, addf_apply, addf_apply, row_at t0 0 _ (by decide), row_at t1 0 _ (by decide),
      row_at t2 0 _ (by decide), row_at t3 0 _ (by decide)]
    rfl

/-- A stacked difference row is the list's entry. -/
theorem diffs_at (k : Fin 4) (x : S1x64.Idx → EReal) (hk : (diffs t0 t1 t2 t3)[k.val]'k.isLt = ⟨S1x64, x⟩)
    (hpre : ((((diffs t0 t1 t2 t3).take k.val).map (·.1)).map
      fun s => if h : s.rank = S4x64.rank then s.size ((0 : Fin 2).cast h.symm) else 0).sum = k.val) :
    concatenate S4x64 0 (diffs t0 t1 t2 t3) concatenates_S1x64_S1x64_S1x64_S1x64_S4x64_d0 (ix2 k n) = x (ix2 0 n) := by
  refine concatenate_apply_piece (t := S4x64) 0 (diffs t0 t1 t2 t3) _ _ k.val k.isLt S1x64 x hk rfl k.val hpre (ix2 0 n) ?_ (Nat.add_zero _)
  intro a ha
  match a with
  | ⟨0, _⟩ => exact absurd rfl ha
  | ⟨1, _⟩ => rfl

/-- The weights' eight columns of the numbers. -/
theorem weights_num (i : Fin 8) : weights W t0 t1 t2 t3 (ix2 n ⟨i.val, by omega⟩) = W (ix2 ⟨12 + i.val, by omega⟩ n) := by
  refine (transpose_apply _ _ _ _ (ix2 (⟨i.val, by omega⟩ : Fin 13) n) fun a => ?_).trans ?_
  · match a with
    | ⟨0, _⟩ => rfl
    | ⟨1, _⟩ => rfl
  · refine (concatenate_apply_piece (t := S13x64) 0 (wgroups W t0 t1 t2 t3) _ _ 0 (show 0 < 3 by decide) S8x64 _ rfl rfl 0 rfl
      (ix2 i n) (fun a ha => ?_) (Nat.zero_add _)).trans (rows_at W 12 _ (by decide) i n)
    match a with
    | ⟨0, _⟩ => exact absurd rfl ha
    | ⟨1, _⟩ => rfl

/-- The weights' last column. -/
theorem weights_y : weights W t0 t1 t2 t3 (ix2 n 12) = W (ix2 20 n) := by
  refine (transpose_apply _ _ _ _ (ix2 (12 : Fin 13) n) fun a => ?_).trans ?_
  · match a with
    | ⟨0, _⟩ => rfl
    | ⟨1, _⟩ => rfl
  · refine (concatenate_apply_piece (t := S13x64) 0 (wgroups W t0 t1 t2 t3) _ _ 2 (show 2 < 3 by decide) S1x64 _ rfl rfl 12 rfl
      (ix2 0 n) (fun a ha => ?_) rfl).trans (rows_at W 20 _ (by decide) 0 n)
    match a with
    | ⟨0, _⟩ => exact absurd rfl ha
    | ⟨1, _⟩ => rfl

/-- The weights' four columns of the codes are the stacked differences. -/
theorem weights_code (k : Fin 4) : weights W t0 t1 t2 t3 (ix2 n ⟨8 + k.val, by omega⟩)
    = concatenate S4x64 0 (diffs t0 t1 t2 t3) concatenates_S1x64_S1x64_S1x64_S1x64_S4x64_d0 (ix2 k n) := by
  refine (transpose_apply _ _ _ _ (ix2 (⟨8 + k.val, by omega⟩ : Fin 13) n) fun a => ?_).trans ?_
  · match a with
    | ⟨0, _⟩ => rfl
    | ⟨1, _⟩ => rfl
  · refine concatenate_apply_piece (t := S13x64) 0 (wgroups W t0 t1 t2 t3) _ _ 1 (show 1 < 3 by decide) S4x64 _ rfl rfl 8 rfl
      (ix2 k n) (fun a ha => ?_) rfl
    match a with
    | ⟨0, _⟩ => exact absurd rfl ha
    | ⟨1, _⟩ => rfl

/-- The weight of the first code: the difference of the first table's two rows. -/
theorem weights_code0 : weights W t0 t1 t2 t3 (ix2 n 8) = t0 (ix2 1 n) - t0 (ix2 0 n) :=
  (weights_code W t0 t1 t2 t3 n 0).trans ((diffs_at t0 t1 t2 t3 n 0 _ rfl rfl).trans (diff_at t0 _ _ (by decide) 0 n))
/-- The weight of the second code: the difference of the second table's two rows. -/
theorem weights_code1 : weights W t0 t1 t2 t3 (ix2 n 9) = t1 (ix2 1 n) - t1 (ix2 0 n) :=
  (weights_code W t0 t1 t2 t3 n 1).trans ((diffs_at t0 t1 t2 t3 n 1 _ rfl rfl).trans (diff_at t1 _ _ (by decide) 0 n))
/-- The weight of the third code: the difference of the third table's two rows. -/
theorem weights_code2 : weights W t0 t1 t2 t3 (ix2 n 10) = t2 (ix2 1 n) - t2 (ix2 0 n) :=
  (weights_code W t0 t1 t2 t3 n 2).trans ((diffs_at t0 t1 t2 t3 n 2 _ rfl rfl).trans (diff_at t2 _ _ (by decide) 0 n))
/-- The weight of the fourth code: the difference of the fourth table's two rows. -/
theorem weights_code3 : weights W t0 t1 t2 t3 (ix2 n 11) = t3 (ix2 1 n) - t3 (ix2 0 n) :=
  (weights_code W t0 t1 t2 t3 n 3).trans ((diffs_at t0 t1 t2 t3 n 3 _ rfl rfl).trans (diff_at t3 _ _ (by decide) 0 n))

end

end Cert.KernelIdeal.Prefix

end
-- ==== Proof.Pre.lean ====
/-
  The precondition read: every code is 0 or 1, the tables' first rows and the first twelve rows of `W` are real numbers.
-/
module

public import proofs.«01_k».proof.Pre_codes_and_finite
public import proofs.«01_k».proof.Proof.Gen.Pre_codes_and_finite
public import proofs.«01_k».proof.Proof.Spec
public import Idealize.ShloMosaic.Lib.ReduceAll
public import Idealize.ShloMosaic.Lib.Pipeline.Value

@[expose] public section

noncomputable section

namespace Cert.Pre_codes_and_finite.Read

open Idealize.ShloMosaic Idealize.ShloMosaic.ValueIdx
open Cert.Encoder Cert.Pre_codes_and_finite.Facts

/-- The one index of the scalar shape. -/
instance : Subsingleton S_.Idx := ⟨fun a b => (eq_ix0 a).trans (eq_ix0 b).symm⟩

/-- The f32 word of the positive infinity is the top of the extended reals. -/
theorem ofBits_inf : Ideal.ofBits .f32 0x7F800000#32 = ⊤ := by simp [Ideal.ofBits, Ideal.ieee]

/-- An extended real whose absolute value is below the top is real. -/
theorem real_of_abs (x : EReal) (h : Ideal.cmp .olt (max x (-x)) ⊤ = 1#1) : IsReal x := by
  have h' : max x (-x) < ⊤ := by
    by_contra hn
    have e : Ideal.cmp .olt (max x (-x)) ⊤ = BitVec.ofBool (decide (max x (-x) < ⊤)) := rfl
    rw [e, decide_eq_false hn] at h
    exact absurd h (by decide)
  induction x using EReal.rec with
  | bot => exact absurd h' (by simp)
  | top => exact absurd h' (by simp)
  | coe r => exact ⟨r, rfl⟩

/-- A conjunction that is one has both parts one. -/
theorem both {a b : IVec S_ 1} {j : S_.Idx} (h : andi a b j = 1#1) : a j = 1#1 ∧ b j = 1#1 := IntOp.andi_eq_one.mp h

/-- All entries below infinity in absolute value: all are real. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : IsReal (x i) := by
  have h := Host.reduce_andi_all _ _ hr hu j e i
  refine real_of_abs (x i) ?_
  rw [← ofBits_inf]
  exact h

/-- All codes at least zero and below two: all are 0 or 1. -/
theorem all_codes {s : Shape} {axes : List (Fin s.rank)} (x : IVec s 32) (hb : S_.BroadcastsInDim s (![] : Fin 0 → Fin s.rank))
    (hr : s.ReducesTo axes S_) (hu : 0 < S_.numel) (j : S_.Idx)
    (e : Host.reduce IntOp.andi (andi (cmpi .sge x (broadcastInDim s ![] hb (constantI S_ 32 0#32)))
      (cmpi .slt x (broadcastInDim s ![] hb (constantI S_ 32 2#32)))) (constantI S_ 1 1#1) hr hu j = 1#1) (i : s.Idx) :
    x i = 0#32 ∨ x i = 1#32 := by
  have h := IntOp.andi_eq_one.mp (Host.reduce_andi_all _ _ hr hu j e i)
  have h0 : IntOp.cmpi .sge (x i) 0#32 = 1#1 := h.1
  have h1 : IntOp.cmpi .slt (x i) 2#32 = 1#1 := h.2
  have b0 : (0#32 : BitVec 32).sle (x i) = true := by
    by_contra hn
    rw [Bool.not_eq_true] at hn
    have h0' : BitVec.ofBool ((0#32 : BitVec 32).sle (x i)) = 1#1 := h0
    rw [hn] at h0'
    exact absurd h0' (by decide)
  have b1 : (x i).slt 2#32 = true := by
    by_contra hn
    rw [Bool.not_eq_true] at hn
    have h1' : BitVec.ofBool ((x i).slt 2#32) = 1#1 := h1
    rw [hn] at h1'
    exact absurd h1' (by decide)
  have c0 : (0 : ℤ) ≤ (x i).toInt := by have := BitVec.sle_iff_toInt_le.mp b0; simpa using this
  have c1 : (x i).toInt < 2 := by have := BitVec.slt_iff_toInt_lt.mp b1; simpa using this
  rcases (show (x i).toInt = 0 ∨ (x i).toInt = 1 by omega) with h | h
  · exact .inl (BitVec.eq_of_toInt_eq h)
  · exact .inr (BitVec.eq_of_toInt_eq h)

/-- The arrays as the precondition leaves them. -/
structure Good (cc : Arr3 (BitVec 32) 4096 200 4) (e0 : Arr2 EReal 8 5) (e1 e2 : Arr2 EReal 2 2) (e3 : Arr2 EReal 6 3)
    (W : Arr2 EReal 21 64) : Prop where
  codes : ∀ i, cc i = 0#32 ∨ cc i = 1#32
  first0 : ∀ j, IsReal (e0 (ix2 0 j))
  first1 : ∀ j, IsReal (e1 (ix2 0 j))
  first2 : ∀ j, IsReal (e2 (ix2 0 j))
  first3 : ∀ j, IsReal (e3 (ix2 0 j))
  weights : ∀ (k : Fin 12) (n : Fin 64), IsReal (W (ix2 ⟨k.val, by omega⟩ n))

/-- The slice of an array's first rows, read at an entry. -/
theorem head_apply {R C r : ℕ} (x : Arr2 EReal R C) (h : (⟨2, ![R, C]⟩ : Shape).Slices ![0, 0] ⟨2, ![r, C]⟩) (hr : r ≤ R) (k : Fin r) (n : Fin C) :
    extractStridedSlice ⟨2, ![r, C]⟩ ![0, 0] x h (ix2 k n) = x (ix2 ⟨k.val, by omega⟩ n) := by
  refine extractStridedSlice_apply _ _ _ _ _ fun a => ?_
  match a with
  | ⟨0, _⟩ => exact (Nat.zero_add _).symm
  | ⟨1, _⟩ => exact (Nat.zero_add _).symm

/-- The precondition, all ones, gives all of it. -/
theorem good (num : FVec Ideal S4096x200x8 .f32) (cc : IVec S4096x200x4 32) (y : FVec Ideal S4096x200x1 .f32) (e0 : FVec Ideal S8x5 .f32)
    (e1 e2 : FVec Ideal S2x2 .f32) (e3 : FVec Ideal S6x3 .f32) (W : FVec Ideal S21x64 .f32) (b : FVec Ideal S64 .f32)
    (h : fn (F := Ideal) num cc y e0 e1 e2 e3 W b ix0 = 1#1) : Good cc e0 e1 e2 e3 W := by
  unfold fn fn_part1 at h
  dsimp only at h
  obtain ⟨h, hW⟩ := both h
  obtain ⟨h, h3⟩ := both h
  obtain ⟨h, h2⟩ := both h
  obtain ⟨h, h1⟩ := both h
  obtain ⟨hc, h0⟩ := both h
  refine ⟨fun i => all_codes cc _ _ _ _ hc i, fun j => ?_, fun j => ?_, fun j => ?_, fun j => ?_, fun k n => ?_⟩
  · exact head_apply e0 slices_S8x5_S1x5_0_0 (by decide) 0 j ▸ all_real _ _ _ _ _ h0 (ix2 0 j)
  · exact head_apply e1 slices_S2x2_S1x2_0_0 (by decide) 0 j ▸ all_real _ _ _ _ _ h1 (ix2 0 j)
  · exact head_apply e2 slices_S2x2_S1x2_0_0 (by decide) 0 j ▸ all_real _ _ _ _ _ h2 (ix2 0 j)
  · exact head_apply e3 slices_S6x3_S1x3_0_0 (by decide) 0 j ▸ all_real _ _ _ _ _ h3 (ix2 0 j)
  · exact head_apply W slices_S21x64_S12x64_0_0 (by decide) k n ▸ all_real _ _ _ _ _ hW (ix2 k n)

end Cert.Pre_codes_and_finite.Read

end
-- ==== Proof.Equation.lean ====
/-
  The equation: under the precondition the cell the region writes is the layer's value, so the kernel's result is the
  layer as one function of the argument arrays.
-/
module

public import proofs.«01_k».proof.Proof.Array
public import proofs.«01_k».proof.Proof.Weights
public import proofs.«01_k».proof.Proof.Pre

@[expose] public section

noncomputable section

namespace Cert.KernelIdeal.Equation

open Idealize.ShloMosaic Idealize.ShloMosaic.TcCoe Idealize.ShloMosaic.ValueIdx
open Cert.Encoder Cert.KernelIdeal.Facts₀ Cert.KernelIdeal.Facts Cert.KernelIdeal.Prefix Cert.KernelIdeal.Block
open Cert.Pre_codes_and_finite.Read (Good)
open scoped BigOperators

/-- An argument with its first axis moved last, read at an entry. -/
theorem moved {α : Type} {R : ℕ} (x : Arr3 α 4096 200 R) (h : (⟨3, ![4096, 200, R]⟩ : Shape).Transposes [1, 2, 0] ⟨3, ![200, R, 4096]⟩)
    (l : Fin 200) (k : Fin R) (s : Fin 4096) : transpose ⟨3, ![200, R, 4096]⟩ [1, 2, 0] x h (ix3 l k s) = x (ix3 s l k) := by
  refine transpose_apply _ _ _ _ _ fun a => ?_
  match a with
  | ⟨0, _⟩ => rfl
  | ⟨1, _⟩ => rfl
  | ⟨2, _⟩ => rfl

section
variable (num : FVec Ideal S4096x200x8 .f32) (cc : IVec S4096x200x4 32) (y : FVec Ideal S4096x200x1 .f32)
  (e0 : FVec Ideal S8x5 .f32) (e1 e2 : FVec Ideal S2x2 .f32) (e3 : FVec Ideal S6x3 .f32) (W : FVec Ideal S21x64 .f32) (b : FVec Ideal S64 .f32)

/-- A table's two rows against the weights, blended by the code: the row the code names. -/
theorem blend_tab {R C : ℕ} (hR : 2 ≤ R) (e : Arr2 EReal R C) (off : ℕ) (h : off + C ≤ 12) (n : Fin 64) (v : BitVec 32)
    (hv : v = 0#32 ∨ v = 1#32) (he : ∀ j, IsReal (e (ix2 ⟨0, by omega⟩ j)))
    (hW : ∀ (k : Fin 12) (n : Fin 64), IsReal (W (ix2 ⟨k.val, by omega⟩ n))) :
    tab e W off (by omega) ⟨0, by omega⟩ n
      + (tab e W off (by omega) ⟨1, hR⟩ n - tab e W off (by omega) ⟨0, by omega⟩ n) * ((v.toInt : ℝ) : EReal)
      = tab e W off (by omega) (code R hR v) n :=
  blend hR (fun r => tab e W off (by omega) r n)
    (tab_real e W off (by omega) _ n he fun j => hW ⟨off + j.val, by omega⟩ n) v hv

/-- The cell of the arrays the host lines prepare is the layer's value. -/
theorem cell_eq (hG : Good cc e0 e1 e2 e3 W) (s : Fin 4096) (l : Fin 200) (n : Fin 64) :
    cell (L := 200) (B := 4096) (transpose S200x8x4096 [1, 2, 0] num transposes_S4096x200x8_S200x8x4096_1_2_0)
      (transpose S200x4x4096 [1, 2, 0] cc transposes_S4096x200x4_S200x4x4096_1_2_0)
      (transpose S200x1x4096 [1, 2, 0] y transposes_S4096x200x1_S200x1x4096_1_2_0)
      (weights W (m0 e0 W) (m1 e1 W) (m2 e2 W) (m3 e3 W)) (bias b (m0 e0 W) (m1 e1 W) (m2 e2 W) (m3 e3 W)) l n s
      = leaky (lin num cc y e0 e1 e2 e3 W b s l n) := by
  unfold cell
  refine congrArg leaky ?_
  rw [sum13]
  set x0 := transpose S200x8x4096 [1, 2, 0] num transposes_S4096x200x8_S200x8x4096_1_2_0 with hx0
  set x1 := transpose S200x4x4096 [1, 2, 0] cc transposes_S4096x200x4_S200x4x4096_1_2_0 with hx1
  set x2 := transpose S200x1x4096 [1, 2, 0] y transposes_S4096x200x1_S200x1x4096_1_2_0 with hx2
  have hn : ∀ i : Fin 8, entry x0 x1 x2 l s ⟨i.val, by omega⟩ = num (ix3 s l i) := fun i =>
    (dif_pos i.isLt).trans (moved num _ l i s)
  have hc : ∀ k : Fin 4, entry x0 x1 x2 l s ⟨8 + k.val, by omega⟩ = (((cc (ix3 s l k)).toInt : ℝ) : EReal) := fun k =>
    (dif_neg (by simp)).trans ((dif_pos (by show 8 + k.val < 12; omega)).trans
      (congrArg (fun v : BitVec 32 => ((v.toInt : ℝ) : EReal))
        ((congrArg (fun k' => x1 (ix3 l k' s)) (Fin.ext (Nat.add_sub_cancel_left 8 k.val))).trans (moved cc _ l k s))))
  have hy : entry x0 x1 x2 l s 12 = y (ix3 s l 0) := (dif_neg (by decide)).trans ((dif_neg (by decide)).trans (moved y _ l 0 s))
  rw [Fin.sum_univ_four, bias_at, hy, weights_y, m0_at, m1_at, m2_at, m3_at]
  simp only [hn, hc, weights_num]
  rw [show (⟨8 + (0 : Fin 4).val, by omega⟩ : Fin 13) = 8 from rfl, show (⟨8 + (1 : Fin 4).val, by omega⟩ : Fin 13) = 9 from rfl,
    show (⟨8 + (2 : Fin 4).val, by omega⟩ : Fin 13) = 10 from rfl, show (⟨8 + (3 : Fin 4).val, by omega⟩ : Fin 13) = 11 from rfl,
    weights_code0, weights_code1, weights_code2, weights_code3, m0_at, m1_at, m2_at, m3_at, m0_at, m1_at, m2_at, m3_at, regroup]
  unfold lin
  rw [← blend_tab W (by decide) e0 0 (by decide) n _ (hG.codes _) hG.first0 hG.weights,
    ← blend_tab W (by decide) e1 5 (by decide) n _ (hG.codes _) hG.first1 hG.weights,
    ← blend_tab W (by decide) e2 7 (by decide) n _ (hG.codes _) hG.first2 hG.weights,
    ← blend_tab W (by decide) e3 9 (by decide) n _ (hG.codes _) hG.first3 hG.weights]
  simp only [mul_comm (W _)]
  rfl

end

/-- The kernel's result under the precondition. -/
theorem result_eq (m : (ℓ : Loc nD τ sig) → Buf (Elt Ideal) ℓ) (c : Dev nD)
    (hG : Good (m ((c.tc : Thread nD τ).loc main_arg1)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))) :
    transpose S4096x200x64 [2, 0, 1] (Whole.G m c) transposes_S200x64x4096_S4096x200x64_2_0_1
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  funext i
  obtain ⟨s, l, n, rfl⟩ : ∃ (s : Fin 4096) (l : Fin 200) (n : Fin 64), i = ix3 s l n := ⟨i 0, i 1, i 2, eq_ix3 i⟩
  refine (transpose_apply _ _ _ _ (ix3 l n s) fun a => ?_).trans ?_
  · match a with
    | ⟨0, _⟩ => rfl
    | ⟨1, _⟩ => rfl
    | ⟨2, _⟩ => rfl
  · unfold Whole.G
    rw [V_num, V_codes, V_y, V_weights, V_bias]
    exact cell_eq _ _ _ _ _ _ _ _ _ hG s l n

end Cert.KernelIdeal.Equation

end
-- ==== Proof.Take.lean ====
/-
  The reference's table lookup, in a module that names no table: an index wrapped from below, a gather of rows, and a
  mask over the rows out of range. At a code of 0 or 1 it is the row the code names.
-/
module

public import proofs.«01_k».proof.ReferenceIdeal
public import proofs.«01_k».proof.Proof.Gen.ReferenceIdeal
public import proofs.«01_k».proof.Proof.Spec
public import Idealize.ShloMosaic.Lib.ReduceAll
public import Idealize.ShloMosaic.Lib.Pipeline.Value

@[expose] public section

noncomputable section

namespace Cert.ReferenceIdeal.Take

open Idealize.ShloMosaic Idealize.ShloMosaic.TcCoe Idealize.ShloMosaic.ValueIdx
open Cert.Encoder Cert.ReferenceIdeal.Facts₀ Cert.ReferenceIdeal.Facts

/-- The dimension numbers of a gather of whole rows of an `R × C` table, one row for each pair. -/
abbrev rowDims (R C : ℕ) (wf : GatherDims.WF ⟨2, ![R, C]⟩ ⟨3, ![4096, 200, 1]⟩ ⟨3, ![4096, 200, C]⟩ [2] [0] [] [0] [] 2 ![1, C]) :
    GatherDims ⟨2, ![R, C]⟩ ⟨3, ![4096, 200, 1]⟩ ⟨3, ![4096, 200, C]⟩ where
  offsetDims := [2]
  collapsedSliceDims := [0]
  operandBatchingDims := []
  startIndicesBatchingDims := []
  startIndexMap := [0]
  indexVectorDim := 2
  sliceSizes := ![1, C]
  wf := wf

/-- The gather read at an entry: the table at the row the index names, clamped into the table. -/
theorem gather_at {α : Type} {R C : ℕ} (hR : 0 < R)
    (wf : GatherDims.WF ⟨2, ![R, C]⟩ ⟨3, ![4096, 200, 1]⟩ ⟨3, ![4096, 200, C]⟩ [2] [0] [] [0] [] 2 ![1, C])
    (x : Arr2 α R C) (idx : IVec ⟨3, ![4096, 200, 1]⟩ 32) (s : Fin 4096) (l : Fin 200) (j : Fin C) :
    Host.gather (rowDims R C wf) x idx (ix3 s l j) = x (ix2 ⟨min (idx (ix3 s l 0)).toInt.toNat (R - 1), by omega⟩ j) := by
  unfold Host.gather
  refine congrArg x (funext fun a => Fin.ext ?_)
  match a with
  | ⟨0, _⟩ =>
    show (rowDims R C wf).start (ix3 s l j) idx 0 + (rowDims R C wf).batchCoord (ix3 s l j) 0 + (rowDims R C wf).offCoord (ix3 s l j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R C wf).startIndexMap from List.mem_singleton.mpr rfl)]
    have hsi : (rowDims R C wf).siIdx (ix3 s l j) ⟨List.idxOf (0 : Fin 2) (rowDims R C wf).startIndexMap,
        List.idxOf_lt_length_iff.2 (List.mem_singleton.mpr rfl)⟩ = ix3 s l 0 := by
      funext b; refine Fin.ext ?_
      match b with
      | ⟨0, _⟩ => rfl
      | ⟨1, _⟩ => rfl
      | ⟨2, _⟩ => rfl
    rw [hsi]
    rfl
  | ⟨1, _⟩ =>
    show (rowDims R C wf).start (ix3 s l j) idx 1 + (rowDims R C wf).batchCoord (ix3 s l j) 1 + (rowDims R C wf).offCoord (ix3 s l j) 1 = _
    rw [GatherDims.batchCoord_eq_zero _ _ _ List.not_mem_nil]
    unfold GatherDims.start
    rw [dif_neg (fun h => absurd (congrArg Fin.val (List.mem_singleton.mp h)) Nat.one_ne_zero)]
    simp only [Nat.zero_add]
    rfl

section
variable {F : FTy → Type} [FloatOps F] {R C : ℕ}

/-- The index of each pair: a negative one counts from the table's end. -/
def index (rows : BitVec 32) (v : IVec S4096x200 32) : IVec S4096x200x1 32 :=
  broadcastInDim S4096x200x1 ![0, 1] bcast_S4096x200_S4096x200x1_0_1
    (select (cmpi .slt v (broadcastInDim S4096x200 ![] bcast_S_S4096x200 (constantI S_ 32 0#32)))
      (addi v (broadcastInDim S4096x200 ![] bcast_S_S4096x200 (constantI S_ 32 rows))) v)

/-- Whether each pair's index is in range. -/
def inside (last : BitVec 32) (i : IVec S4096x200x1 32) : IVec S4096x200 1 :=
  Host.reduce IntOp.andi
    (andi (cmpi .sge i (broadcastInDim S4096x200x1 ![] bcast_S_S4096x200x1 (constantI S_ 32 0#32)))
      (cmpi .sle i (broadcastInDim S4096x200x1 ![0, 1, 2] bcast_S1x1x1_S4096x200x1_0_1_2
        (broadcastInDim S1x1x1 ![2] bcast_S1_S1x1x1_2 (constantI S1 32 last)))))
    (constantI S_ 1 1#1) reducesTo_S4096x200x1_S4096x200_d2 h_S_

/-- The lookup. -/
def take (wf : GatherDims.WF ⟨2, ![R, C]⟩ ⟨3, ![4096, 200, 1]⟩ ⟨3, ![4096, 200, C]⟩ [2] [0] [] [0] [] 2 ![1, C])
    (hb : S4096x200.BroadcastsInDim ⟨3, ![4096, 200, C]⟩ (![0, 1] : Fin 2 → Fin 3))
    (hn : S_.BroadcastsInDim ⟨3, ![4096, 200, C]⟩ (![] : Fin 0 → Fin 3)) (rows last : BitVec 32)
    (v : IVec S4096x200 32) (x : FVec F ⟨2, ![R, C]⟩ .f32) : FVec F ⟨3, ![4096, 200, C]⟩ .f32 :=
  select (broadcastInDim ⟨3, ![4096, 200, C]⟩ ![0, 1] hb (inside last (index rows v)))
    (Host.gather (rowDims R C wf) x (index rows v))
    (broadcastInDim ⟨3, ![4096, 200, C]⟩ ![] hn (constant S_ .f32 0x7FC00000#32))

end

/-- A code is its own index. -/
theorem index_at (rows : BitVec 32) (v : IVec S4096x200 32) (hv : ∀ i, v i = 0#32 ∨ v i = 1#32) (s : Fin 4096) (l : Fin 200)
    (z : Fin 1) : index rows v (ix3 s l z) = v (ix2 s l) := by
  refine (broadcastInDim_apply _ _ _ _ (ix2 s l) fun a => ?_).trans ?_
  · match a with
    | ⟨0, _⟩ => exact (if_neg (show ¬ (4096 : ℕ) = 1 by decide)).symm
    | ⟨1, _⟩ => exact (if_neg (show ¬ (200 : ℕ) = 1 by decide)).symm
  · refine if_neg ?_
    show ¬ IntOp.cmpi .slt (v (ix2 s l)) 0#32 = 1#1
    rcases hv (ix2 s l) with h | h <;> rw [h] <;> decide

/-- The codes are in range. -/
theorem inside_at (rows last : BitVec 32) (h0 : IntOp.cmpi .sle 0#32 last = 1#1) (h1 : IntOp.cmpi .sle 1#32 last = 1#1)
    (v : IVec S4096x200 32) (hv : ∀ i, v i = 0#32 ∨ v i = 1#32) (i : S4096x200.Idx) : inside last (index rows v) i = 1#1 := by
  refine Host.reduce_andi_one _ _ _ _ _ rfl fun i => ?_
  obtain ⟨s, l, z, rfl⟩ : ∃ (s : Fin 4096) (l : Fin 200) (z : Fin 1), i = ix3 s l z := ⟨i 0, i 1, i 2, eq_ix3 i⟩
  show IntOp.andi (IntOp.cmpi .sge (index rows v (ix3 s l z)) 0#32) (IntOp.cmpi .sle (index rows v (ix3 s l z)) last) = 1#1
  rw [index_at rows v hv]
  rcases hv (ix2 s l) with h | h <;> rw [h]
  · exact IntOp.andi_eq_one.mpr ⟨by decide, h0⟩
  · exact IntOp.andi_eq_one.mpr ⟨by decide, h1⟩

/-- The lookup at a code: the row it names. -/
theorem take_at {R C : ℕ} (hR : 2 ≤ R)
    (wf : GatherDims.WF ⟨2, ![R, C]⟩ ⟨3, ![4096, 200, 1]⟩ ⟨3, ![4096, 200, C]⟩ [2] [0] [] [0] [] 2 ![1, C])
    (hb : S4096x200.BroadcastsInDim ⟨3, ![4096, 200, C]⟩ (![0, 1] : Fin 2 → Fin 3))
    (hn : S_.BroadcastsInDim ⟨3, ![4096, 200, C]⟩ (![] : Fin 0 → Fin 3)) (rows last : BitVec 32)
    (h0 : IntOp.cmpi .sle 0#32 last = 1#1) (h1 : IntOp.cmpi .sle 1#32 last = 1#1)
    (v : IVec S4096x200 32) (hv : ∀ i, v i = 0#32 ∨ v i = 1#32) (x : FVec Ideal ⟨2, ![R, C]⟩ .f32)
    (s : Fin 4096) (l : Fin 200) (j : Fin C) :
    take wf hb hn rows last v x (ix3 s l j) = x (ix2 (code R hR (v (ix2 s l))) j) := by
  have hm : broadcastInDim ⟨3, ![4096, 200, C]⟩ ![0, 1] hb (inside last (index rows v)) (ix3 s l j) = 1#1 :=
    (broadcastInDim_apply _ _ _ _ (ix2 s l) fun a => by
      match a with
      | ⟨0, _⟩ => exact (if_neg (show ¬ (4096 : ℕ) = 1 by decide)).symm
      | ⟨1, _⟩ => exact (if_neg (show ¬ (200 : ℕ) = 1 by decide)).symm).trans (inside_at rows last h0 h1 v hv _)
  unfold take
  rw [select_apply, hm]
  refine (if_pos rfl).trans ?_
  · rw [gather_at (by omega)]
    refine congrArg (fun r => x (ix2 r j)) (Fin.ext ?_)
    show min (index rows v (ix3 s l 0)).toInt.toNat (R - 1) = _
    rw [index_at rows v hv]
    unfold code
    rcases hv (ix2 s l) with h | h <;> rw [h]
    · rw [if_neg (by decide)]; exact Nat.zero_min _
    · rw [if_pos rfl]; exact Nat.min_eq_left (by show 1 ≤ R - 1; omega)

/-- Column `k` of the codes, read at a pair. -/
theorem column_at (cc : IVec S4096x200x4 32) (k : ℕ) (hk : k < 4) (h : S4096x200x4.Slices ![0, 0, k] S4096x200x1) (s : Fin 4096) (l : Fin 200) :
    shapeCast S4096x200 (extractStridedSlice S4096x200x1 ![0, 0, k] cc h) shapeCasts_S4096x200x1_S4096x200 (ix2 s l) = cc (ix3 s l ⟨k, hk⟩) := by
  refine (shapeCast_apply _ _ _ (ix3 s l 0) ?_).trans ?_
  · rw [Shape.rowMajor_val_three, Shape.rowMajor_val_two]
    show (s.val * 200 + l.val) * 1 + 0 = s.val * 200 + l.val
    omega
  · refine extractStridedSlice_apply _ _ _ _ _ fun a => ?_
    match a with
    | ⟨0, _⟩ => exact (Nat.zero_add _).symm
    | ⟨1, _⟩ => exact (Nat.zero_add _).symm
    | ⟨2, _⟩ => rfl

end Cert.ReferenceIdeal.Take

end
-- ==== Proof.RefValue.lean ====
/-
  What the reference computes, at codes of 0 or 1: the layer as one function of the argument arrays.
-/
module

public import proofs.«01_k».proof.Proof.Gen.ReferenceIdeal.Read
public import proofs.«01_k».proof.Proof.Take

@[expose] public section

noncomputable section

namespace Cert.ReferenceIdeal.Layer

open Idealize.ShloMosaic Idealize.ShloMosaic.TcCoe Idealize.ShloMosaic.ValueIdx
open Cert.Encoder Cert.ReferenceIdeal.Facts₀ Cert.ReferenceIdeal.Facts Cert.ReferenceIdeal.Read Cert.ReferenceIdeal.Take
open scoped BigOperators

variable (num : FVec Ideal S4096x200x8 .f32) (cc : IVec S4096x200x4 32) (y : FVec Ideal S4096x200x1 .f32)
  (e0 : FVec Ideal S8x5 .f32) (e1 e2 : FVec Ideal S2x2 .f32) (e3 : FVec Ideal S6x3 .f32) (W : FVec Ideal S21x64 .f32) (b : FVec Ideal S64 .f32)

/-- A column of codes holds codes. -/
theorem column_code (hc : ∀ i, cc i = 0#32 ∨ cc i = 1#32) (k : ℕ) (hk : k < 4) (h : S4096x200x4.Slices ![0, 0, k] S4096x200x1) (i : S4096x200.Idx) :
    shapeCast S4096x200 (extractStridedSlice S4096x200x1 ![0, 0, k] cc h) shapeCasts_S4096x200x1_S4096x200 i = 0#32
      ∨ shapeCast S4096x200 (extractStridedSlice S4096x200x1 ![0, 0, k] cc h) shapeCasts_S4096x200x1_S4096x200 i = 1#32 := by
  obtain ⟨s, l, rfl⟩ : ∃ (s : Fin 4096) (l : Fin 200), i = ix2 s l := ⟨i 0, i 1, eq_ix2 i⟩
  rw [column_at cc k hk h]
  exact hc _

section
variable (hc : ∀ i, cc i = 0#32 ∨ cc i = 1#32) (s : Fin 4096) (l : Fin 200)
include hc

/-- The first lookup: the row the first code names. -/
theorem look0 (j : Fin 5) : val_main_v2 (F := Ideal) cc e0 (ix3 s l j) = e0 (ix2 (code 8 (by decide) (cc (ix3 s l 0))) j) := by
  refine (take_at (R := 8) (C := 5) (by decide) gather_S8x5_S4096x200x1_S4096x200x5_2_0_n_n_0_2_15_wf bcast_S4096x200_S4096x200x5_0_1
    bcast_S_S4096x200x5 8#32 7#32 (by decide) (by decide) _ (column_code cc hc 0 (by decide) _) e0 s l j).trans ?_
  rw [column_at]; rfl
/-- The second lookup: the row the second code names. -/
theorem look1 (j : Fin 2) : val_main_v5 (F := Ideal) cc e1 (ix3 s l j) = e1 (ix2 (code 2 (by decide) (cc (ix3 s l 1))) j) := by
  refine (take_at (R := 2) (C := 2) (by decide) gather_S2x2_S4096x200x1_S4096x200x2_2_0_n_n_0_2_12_wf bcast_S4096x200_S4096x200x2_0_1
    bcast_S_S4096x200x2 2#32 1#32 (by decide) (by decide) _ (column_code cc hc 1 (by decide) _) e1 s l j).trans ?_
  rw [column_at]; rfl
/-- The third lookup: the row the third code names. -/
theorem look2 (j : Fin 2) : val_main_v8 (F := Ideal) cc e2 (ix3 s l j) = e2 (ix2 (code 2 (by decide) (cc (ix3 s l 2))) j) := by
  refine (take_at (R := 2) (C := 2) (by decide) gather_S2x2_S4096x200x1_S4096x200x2_2_0_n_n_0_2_12_wf bcast_S4096x200_S4096x200x2_0_1
    bcast_S_S4096x200x2 2#32 1#32 (by decide) (by decide) _ (column_code cc hc 2 (by decide) _) e2 s l j).trans ?_
  rw [column_at]; rfl
/-- The fourth lookup: the row the fourth code names. -/
theorem look3 (j : Fin 3) : val_main_v11 (F := Ideal) cc e3 (ix3 s l j) = e3 (ix2 (code 6 (by decide) (cc (ix3 s l 3))) j) := by
  refine (take_at (R := 6) (C := 3) (by decide) gather_S6x3_S4096x200x1_S4096x200x3_2_0_n_n_0_2_13_wf bcast_S4096x200_S4096x200x3_0_1
    bcast_S_S4096x200x3 6#32 5#32 (by decide) (by decide) _ (column_code cc hc 3 (by decide) _) e3 s l j).trans ?_
  rw [column_at]; rfl

end

/-- The feature arrays the reference joins along the last axis. -/
def features : List ((s : Shape) × (s.Idx → EReal)) :=
  [⟨S4096x200x5, val_main_v2 (F := Ideal) cc e0⟩, ⟨S4096x200x2, val_main_v5 (F := Ideal) cc e1⟩, ⟨S4096x200x2, val_main_v8 (F := Ideal) cc e2⟩,
    ⟨S4096x200x3, val_main_v11 (F := Ideal) cc e3⟩, ⟨S4096x200x8, num⟩, ⟨S4096x200x1, y⟩]

/-- The joined array at a place inside piece `k`, whose `n` columns start at column `off`. -/
theorem piece_at (k : ℕ) (hk : k < 6) (n off : ℕ) (x : Arr3 EReal 4096 200 n)
    (hx : (features num cc y e0 e1 e2 e3)[k]'hk = ⟨⟨3, ![4096, 200, n]⟩, x⟩)
    (hpre : ((((features num cc y e0 e1 e2 e3).take k).map (·.1)).map
      fun s => if h : s.rank = S4096x200x21.rank then s.size ((2 : Fin 3).cast h.symm) else 0).sum = off)
    (hn : off + n ≤ 21) (s : Fin 4096) (l : Fin 200) (j : Fin n) :
    val_main_v12 (F := Ideal) num cc y e0 e1 e2 e3 (ix3 s l ⟨off + j.val, by omega⟩) = x (ix3 s l j) := by
  refine concatenate_apply_piece (t := S4096x200x21) 2 (features num cc y e0 e1 e2 e3) _ _ k hk ⟨3, ![4096, 200, n]⟩ x hx rfl off hpre (ix3 s l j) ?_ rfl
  intro a ha
  match a with
  | ⟨0, _⟩ => rfl
  | ⟨1, _⟩ => rfl
  | ⟨2, _⟩ => exact absurd rfl ha

/-- The reference's product and bias: the linear layer. -/
theorem lin_eq (hc : ∀ i, cc i = 0#32 ∨ cc i = 1#32) (s : Fin 4096) (l : Fin 200) (n : Fin 64) :
    val_main_v16 (F := Ideal) num cc y e0 e1 e2 e3 W b (ix3 s l n) = lin num cc y e0 e1 e2 e3 W b s l n := by
  have hb : val_main_v15 (F := Ideal) b (ix3 s l n) = b (ix1 n) := by
    rw [val_main_v15_apply, val_main_v14_apply]
    exact congrArg b (eq_ix1 _)
  have el : ∀ k : Fin 21, lidx_main_v13 (ix3 s l n) k = ix3 s l k := fun k => eq_ix3 _
  have er : ∀ k : Fin 21, ridx_main_v13 (ix3 s l n) k = ix2 k n := fun k => eq_ix2 _
  rw [val_main_v16_apply, val_main_v13_apply, hb]
  simp only [el, er]
  rw [sum21]
  have p0 := piece_at num cc y e0 e1 e2 e3 0 (by decide) 5 0 _ rfl rfl (by decide) s l
  have p1 := piece_at num cc y e0 e1 e2 e3 1 (by decide) 2 5 _ rfl rfl (by decide) s l
  have p2 := piece_at num cc y e0 e1 e2 e3 2 (by decide) 2 7 _ rfl rfl (by decide) s l
  have p3 := piece_at num cc y e0 e1 e2 e3 3 (by decide) 3 9 _ rfl rfl (by decide) s l
  have p4 := piece_at num cc y e0 e1 e2 e3 4 (by decide) 8 12 _ rfl rfl (by decide) s l
  have p5 : val_main_v12 (F := Ideal) num cc y e0 e1 e2 e3 (ix3 s l 20) = y (ix3 s l 0) :=
    piece_at num cc y e0 e1 e2 e3 5 (by decide) 1 20 _ rfl rfl (by decide) s l 0
  simp only [p0, p1, p2, p3, p4, p5, look0 cc e0 hc, look1 cc e1 hc, look2 cc e2 hc, look3 cc e3 hc]
  rfl

/-- The reference's result is the layer. -/
theorem value_eq (hc : ∀ i, cc i = 0#32 ∨ cc i = 1#32) :
    val_main_v21 (F := Ideal) num cc y e0 e1 e2 e3 W b = out num cc y e0 e1 e2 e3 W b := by
  funext i
  obtain ⟨s, l, n, rfl⟩ : ∃ (s : Fin 4096) (l : Fin 200) (n : Fin 64), i = ix3 s l n := ⟨i 0, i 1, i 2, eq_ix3 i⟩
  rw [val_main_v21_apply, val_main_v18_apply, val_main_v20_apply, lin_eq num cc y e0 e1 e2 e3 W b hc,
    val_main_v17_apply, val_main_v19_apply]
  rfl

end Cert.ReferenceIdeal.Layer

end
-- ==== Proof.lean ====
/-
  The claims: the kernel and its idealization run and leave their arguments and every counter as they were, so does the
  reference; the idealization keeps the kernel's operations; and, under the precondition, kernel and reference end with
  one result array, the layer as a function of the arguments (`Cert.Encoder.out`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_codes_and_finite
public import proofs.«01_k».proof.Proof.Gen.ReferenceIdeal.Run
public import proofs.«01_k».proof.Proof.Gen.ReferenceIdeal.Read
public import proofs.«01_k».proof.Proof.Equation
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as they were and every counter at zero. -/
theorem reference_frame : quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Under the precondition both programs end with the layer of the arguments. -/
theorem value : algebraic_KernelIdeal_ReferenceIdeal_pre_codes_and_finite (hKernelIdeal := Cert.KernelIdeal.Gen.facts)
    (hReferenceIdeal := Cert.ReferenceIdeal.Gen.facts) (hPre_codes_and_finite := Cert.Pre_codes_and_finite.Gen.facts) := by
  intro m g m' g' hpre hargs
  have hG := fun c => Cert.Pre_codes_and_finite.Read.good _ _ _ _ _ _ _ _ _ (congrFun (hpre c) ValueIdx.ix0)
  refine ⟨fun c => Cert.Encoder.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    (θ_run Cert.KernelIdeal.defs _ _).mono
      (fun r h c => ⟨(h c).1.trans (Cert.KernelIdeal.Equation.result_eq m c (hG c)), (h c).2⟩) (Cert.KernelIdeal.Whole.run m g),
    (θ_run Cert.ReferenceIdeal.defs _ _).mono (fun r h c => ⟨(h c).1.trans ?_, (h c).2⟩) (Cert.ReferenceIdeal.Value.run (F := Ideal) m' g')⟩
  obtain ⟨h0, h1, h2, h3, h4, h5, h6, h7, h8⟩ := hargs c
  rw [Cert.ReferenceIdeal.Read.val_main_v21_eq, h0, h1, h2, h3, h4, h5, h6, h7, h8]
  exact Cert.ReferenceIdeal.Layer.value_eq _ _ _ _ _ _ _ _ _ (hG c).codes

/-- Everything claimed. -/
theorem claim : Cert.Claim :=
  ⟨Cert.Kernel.Gen.facts, Cert.KernelIdeal.Gen.facts, Cert.ReferenceIdeal.Gen.facts, Cert.Pre_codes_and_finite.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, value⟩

end Cert.Proof

end
